-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_arguments_in_range [hPre_arguments_in_range : Cert.Pre_arguments_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_arguments_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_arguments_in_range [hPre_arguments_in_range : Cert.Pre_arguments_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_arguments_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_arguments_in_range [hKernelIdeal : Cert.KernelIdeal.Facts] [hPre_arguments_in_range : Cert.Pre_arguments_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_arguments_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_arguments_in_range [hReferenceIdeal : Cert.ReferenceIdeal.Facts] [hPre_arguments_in_range : Cert.Pre_arguments_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_arguments_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "score" .f32 0x3DE995B3#32 (((Real.sqrt 160)⁻¹ * (Real.log 2)⁻¹ : ℝ) : EReal)

def algebraic_KernelIdeal_ReferenceIdeal_pre_arguments_in_range [hKernelIdeal : Cert.KernelIdeal.Facts] [hReferenceIdeal : Cert.ReferenceIdeal.Facts] [hPre_arguments_in_range : Cert.Pre_arguments_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_arguments_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v10)) (v5 : (c : Dev Cert.KernelIdeal.nD) → Buf (Elt Ideal) ((c.tc : Thread Cert.KernelIdeal.nD Cert.KernelIdeal.τ).loc Cert.KernelIdeal.main_v7)) (v6 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v10) = v4 c
          ∧ r.2.mem ((c.tc : Thread Cert.KernelIdeal.nD Cert.KernelIdeal.τ).loc Cert.KernelIdeal.main_v7) = v5 c
          ∧ r.2.mem ((c.tc : Thread Cert.KernelIdeal.nD Cert.KernelIdeal.τ).loc Cert.KernelIdeal.main_v11) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v121) = v1 c
          ∧ r.2.mem ((c.tc : Thread Cert.ReferenceIdeal.nD Cert.ReferenceIdeal.τ).loc Cert.ReferenceIdeal.main_v122) = v2 c
          ∧ r.2.mem ((c.tc : Thread Cert.ReferenceIdeal.nD Cert.ReferenceIdeal.τ).loc Cert.ReferenceIdeal.main_v62_0) = v3 c
          ∧ r.2.mem ((c.tc : Thread Cert.ReferenceIdeal.nD Cert.ReferenceIdeal.τ).loc Cert.ReferenceIdeal.main_v20) = v4 c
          ∧ r.2.mem ((c.tc : Thread Cert.ReferenceIdeal.nD Cert.ReferenceIdeal.τ).loc Cert.ReferenceIdeal.main_v62_1) = v5 c
          ∧ r.2.mem ((c.tc : Thread Cert.ReferenceIdeal.nD Cert.ReferenceIdeal.τ).loc Cert.ReferenceIdeal.main_v51) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_arguments_in_range : Cert.Pre_arguments_in_range.Facts),
    quiescent_Kernel (hKernel := hKernel)
    ∧ quiescent_KernelIdeal (hKernelIdeal := hKernelIdeal)
    ∧ quiescent_KernelIdeal_pre_arguments_in_range (hKernelIdeal := hKernelIdeal) (hPre_arguments_in_range := hPre_arguments_in_range)
    ∧ quiescent_ReferenceIdeal (hReferenceIdeal := hReferenceIdeal)
    ∧ quiescent_ReferenceIdeal_pre_arguments_in_range (hReferenceIdeal := hReferenceIdeal) (hPre_arguments_in_range := hPre_arguments_in_range)
    ∧ preserves_Kernel_KernelIdeal
    ∧ algebraic_KernelIdeal_ReferenceIdeal_pre_arguments_in_range (hKernelIdeal := hKernelIdeal) (hReferenceIdeal := hReferenceIdeal) (hPre_arguments_in_range := hPre_arguments_in_range)
-- ==== Pre_arguments_in_range.lean ====
abbrev S6x256x24x160 : Shape := ⟨4, ![6, 256, 24, 160]⟩
abbrev S6x256x24x96 : Shape := ⟨4, ![6, 256, 24, 96]⟩
abbrev S_ : Shape := ⟨0, ![]⟩
abbrev S6x256x24 : Shape := ⟨3, ![6, 256, 24]⟩
abbrev S6x256x24x1 : Shape := ⟨4, ![6, 256, 24, 1]⟩

class Facts : Prop where
  bitsLt_bf16_f32 : FTy.bits .bf16 < FTy.bits .f32
  reducesTo_S6x256x24x160_S6x256x24_d3 : S6x256x24x160.ReducesTo [3] S6x256x24
  h_S_ : 0 < S_.numel
  bcast_S_S6x256x24 : S_.BroadcastsInDim S6x256x24 (![] : Fin 0 → Fin S6x256x24.rank)
  bcast_S6x256x24_S6x256x24x1_0_1_2 : S6x256x24.BroadcastsInDim S6x256x24x1 (![0, 1, 2] : Fin 3 → Fin S6x256x24x1.rank)
  bcast_S_S6x256x24x96 : S_.BroadcastsInDim S6x256x24x96 (![] : Fin 0 → Fin S6x256x24x96.rank)
  bcast_S6x256x24x1_S6x256x24x96_0_1_2_3 : S6x256x24x1.BroadcastsInDim S6x256x24x96 (![0, 1, 2, 3] : Fin 4 → Fin S6x256x24x96.rank)

variable [Facts]

def fn_part1 {F : FTy → Type} [FloatOps F] (main_arg3 : FVec F S6x256x24x96 .bf16) (main_v12 : IVec S6x256x24 1) (main_v15 : FVec F S6x256x24 .f32) (main_v16 : FVec F S6x256x24 .f32) : IVec S6x256x24x96 1 :=
  let main_v17 : FVec F S6x256x24 .f32 := mulf main_v15 main_v16
  let main_cst_6 : FVec F S_ .f32 := constant S_ .f32 0x00000000#32
  let main_v18 : FVec F S6x256x24 .f32 := broadcastInDim S6x256x24 ![] bcast_S_S6x256x24 main_cst_6
  let main_v19 : IVec S6x256x24 1 := cmpf .oeq main_v17 main_v18
  let main_cst_7 : FVec F S_ .f32 := constant S_ .f32 0x00800000#32
  let main_v20 : FVec F S6x256x24 .f32 := broadcastInDim S6x256x24 ![] bcast_S_S6x256x24 main_cst_7
  let main_v21 : IVec S6x256x24 1 := cmpf .oge main_v17 main_v20
  let main_cst_8 : FVec F S_ .f32 := constant S_ .f32 0x7E800000#32
  let main_v22 : FVec F S6x256x24 .f32 := broadcastInDim S6x256x24 ![] bcast_S_S6x256x24 main_cst_8
  let main_v23 : IVec S6x256x24 1 := cmpf .olt main_v17 main_v22
  let main_v24 : IVec S6x256x24 1 := andi main_v21 main_v23
  let main_v25 : IVec S6x256x24 1 := ori main_v19 main_v24
  let main_v26 : IVec S6x256x24 1 := andi main_v12 main_v25
  let main_v27 : IVec S6x256x24x1 1 := broadcastInDim S6x256x24x1 ![0, 1, 2] bcast_S6x256x24_S6x256x24x1_0_1_2 main_v26
  let main_v28 : FVec F S6x256x24x96 .f32 := (extf .f32 · bitsLt_bf16_f32) main_arg3
  let main_v29 : FVec F S6x256x24x96 .f32 := Host.absf main_v28
  let main_cst_9 : FVec F S_ .f32 := constant S_ .f32 0x7F800000#32
  let main_v30 : FVec F S6x256x24x96 .f32 := broadcastInDim S6x256x24x96 ![] bcast_S_S6x256x24x96 main_cst_9
  let main_v31 : IVec S6x256x24x96 1 := cmpf .olt main_v29 main_v30
  let main_v32 : IVec S6x256x24x96 1 := broadcastInDim S6x256x24x96 ![0, 1, 2, 3] bcast_S6x256x24x1_S6x256x24x96_0_1_2_3 main_v27
  let main_v33 : IVec S6x256x24x96 1 := andi main_v32 main_v31
  main_v33

def fn {F : FTy → Type} [FloatOps F] (main_arg0 : FVec F S6x256x24x160 .bf16) (main_arg1 : FVec F S6x256x24x160 .bf16) (main_arg2 : FVec F S6x256x24x160 .bf16) (main_arg3 : FVec F S6x256x24x96 .bf16) : IVec S6x256x24x96 1 :=
  let main_v0 : FVec F S6x256x24x160 .f32 := (extf .f32 · bitsLt_bf16_f32) main_arg0
  let main_v1 : FVec F S6x256x24x160 .f32 := Host.absf main_v0
  let main_cst : FVec F S_ .f32 := constant S_ .f32 0xFF800000#32
  let main_v2 : FVec F S6x256x24 .f32 := (fun x v => Host.reduce FloatOps.maximumf x v reducesTo_S6x256x24x160_S6x256x24_d3 h_S_) main_v1 main_cst
  let main_cst_0 : FVec F S_ .f32 := constant S_ .f32 0x3B124925#32
  let main_v3 : FVec F S6x256x24 .f32 := broadcastInDim S6x256x24 ![] bcast_S_S6x256x24 main_cst_0
  let main_v4 : FVec F S6x256x24 .f32 := mulf main_v2 main_v3
  let main_cst_1 : FVec F S_ .f32 := constant S_ .f32 0x00000000#32
  let main_v5 : FVec F S6x256x24 .f32 := broadcastInDim S6x256x24 ![] bcast_S_S6x256x24 main_cst_1
  let main_v6 : IVec S6x256x24 1 := cmpf .oeq main_v4 main_v5
  let main_cst_2 : FVec F S_ .f32 := constant S_ .f32 0x00800000#32
  let main_v7 : FVec F S6x256x24 .f32 := broadcastInDim S6x256x24 ![] bcast_S_S6x256x24 main_cst_2
  let main_v8 : IVec S6x256x24 1 := cmpf .oge main_v4 main_v7
  let main_cst_3 : FVec F S_ .f32 := constant S_ .f32 0x7E800000#32
  let main_v9 : FVec F S6x256x24 .f32 := broadcastInDim S6x256x24 ![] bcast_S_S6x256x24 main_cst_3
  let main_v10 : IVec S6x256x24 1 := cmpf .olt main_v4 main_v9
  let main_v11 : IVec S6x256x24 1 := andi main_v8 main_v10
  let main_v12 : IVec S6x256x24 1 := ori main_v6 main_v11
  let main_v13 : FVec F S6x256x24x160 .f32 := (extf .f32 · bitsLt_bf16_f32) main_arg1
  let main_v14 : FVec F S6x256x24x160 .f32 := Host.absf main_v13
  let main_cst_4 : FVec F S_ .f32 := constant S_ .f32 0xFF800000#32
  let main_v15 : FVec F S6x256x24 .f32 := (fun x v => Host.reduce FloatOps.maximumf x v reducesTo_S6x256x24x160_S6x256x24_d3 h_S_) main_v14 main_cst_4
  let main_cst_5 : FVec F S_ .f32 := constant S_ .f32 0x3B124925#32
  let main_v16 : FVec F S6x256x24 .f32 := broadcastInDim S6x256x24 ![] bcast_S_S6x256x24 main_cst_5
  fn_part1 (F := F) main_arg3 main_v12 main_v15 main_v16
-- ==== Kernel.lean ====
abbrev S6x256x24x160 : Shape := ⟨4, ![6, 256, 24, 160]⟩
abbrev S6x256x24x96 : Shape := ⟨4, ![6, 256, 24, 96]⟩
abbrev S6x24x160x256 : Shape := ⟨4, ![6, 24, 160, 256]⟩
abbrev S6x24x96x256 : Shape := ⟨4, ![6, 24, 96, 256]⟩
abbrev S6x24x160x96 : Shape := ⟨4, ![6, 24, 160, 96]⟩
abbrev S6x24x256 : Shape := ⟨3, ![6, 24, 256]⟩
abbrev S1x8x160x256 : Shape := ⟨4, ![1, 8, 160, 256]⟩
abbrev S1x8x96x256 : Shape := ⟨4, ![1, 8, 96, 256]⟩
abbrev S1x8x160x96 : Shape := ⟨4, ![1, 8, 160, 96]⟩
abbrev S1x8x256 : Shape := ⟨3, ![1, 8, 256]⟩
abbrev S256x256 : Shape := ⟨2, ![256, 256]⟩
abbrev S1x1x160x256 : Shape := ⟨4, ![1, 1, 160, 256]⟩
abbrev S160x256 : Shape := ⟨2, ![160, 256]⟩
abbrev S256 : Shape := ⟨1, ![256]⟩
abbrev S1x256 : Shape := ⟨2, ![1, 256]⟩
abbrev S1x1x256 : Shape := ⟨3, ![1, 1, 256]⟩
abbrev S1x1x96x256 : Shape := ⟨4, ![1, 1, 96, 256]⟩
abbrev S96x256 : Shape := ⟨2, ![96, 256]⟩
abbrev S96x1 : Shape := ⟨2, ![96, 1]⟩
abbrev S96x128 : Shape := ⟨2, ![96, 128]⟩
abbrev S96x160 : Shape := ⟨2, ![96, 160]⟩
abbrev S160x96 : Shape := ⟨2, ![160, 96]⟩
abbrev S1x1x160x96 : Shape := ⟨4, ![1, 1, 160, 96]⟩
abbrev S256x160 : Shape := ⟨2, ![256, 160]⟩
abbrev S128x128 : Shape := ⟨2, ![128, 128]⟩
abbrev S128x256 : Shape := ⟨2, ![128, 256]⟩
abbrev S256x128 : Shape := ⟨2, ![256, 128]⟩
abbrev S256x96 : Shape := ⟨2, ![256, 96]⟩
abbrev S128x96 : Shape := ⟨2, ![128, 96]⟩
abbrev S128x192 : Shape := ⟨2, ![128, 192]⟩
abbrev S192x128 : Shape := ⟨2, ![192, 128]⟩
abbrev S160x128 : Shape := ⟨2, ![160, 128]⟩
abbrev S6x24x96x160 : Shape := ⟨4, ![6, 24, 96, 160]⟩
abbrev S6x256x24 : Shape := ⟨3, ![6, 256, 24]⟩

abbrev nBuf : Space → Nat
  | .hbm => 22
  | .vmem => 23
  | .smem => 0
  | _ => 0

abbrev bufTy : (tb : Table) → Fin (tcTables nBuf tb) → BufTy
  | .hbm, ⟨0, _⟩ => ⟨S6x256x24x160, .bf16⟩
  | .hbm, ⟨1, _⟩ => ⟨S6x256x24x160, .bf16⟩
  | .hbm, ⟨2, _⟩ => ⟨S6x256x24x160, .bf16⟩
  | .hbm, ⟨3, _⟩ => ⟨S6x256x24x96, .bf16⟩
  | .hbm, ⟨4, _⟩ => ⟨S6x24x160x256, .bf16⟩
  | .hbm, ⟨5, _⟩ => ⟨S6x24x160x256, .bf16⟩
  | .hbm, ⟨6, _⟩ => ⟨S6x24x160x256, .bf16⟩
  | .hbm, ⟨7, _⟩ => ⟨S6x24x96x256, .bf16⟩
  | .hbm, ⟨8, _⟩ => ⟨S6x24x160x256, .bf16⟩
  | .hbm, ⟨9, _⟩ => ⟨S6x24x160x96, .f32⟩
  | .hbm, ⟨10, _⟩ => ⟨S6x24x160x96, .f32⟩
  | .hbm, ⟨11, _⟩ => ⟨S6x24x160x256, .fp8e4m3⟩
  | .hbm, ⟨12, _⟩ => ⟨S6x24x256, .f32⟩
  | .hbm, ⟨13, _⟩ => ⟨S6x24x160x256, .fp8e4m3⟩
  | .hbm, ⟨14, _⟩ => ⟨S6x24x256, .f32⟩
  | .hbm, ⟨15, _⟩ => ⟨S6x256x24x160, .bf16⟩
  | .hbm, ⟨16, _⟩ => ⟨S6x256x24x160, .fp8e4m3⟩
  | .hbm, ⟨17, _⟩ => ⟨S6x256x24x160, .fp8e4m3⟩
  | .hbm, ⟨18, _⟩ => ⟨S6x24x96x160, .f32⟩
  | .hbm, ⟨19, _⟩ => ⟨S6x24x96x160, .f32⟩
  | .hbm, ⟨20, _⟩ => ⟨S6x256x24, .f32⟩
  | .hbm, ⟨21, _⟩ => ⟨S6x256x24, .f32⟩
  | .local _ .vmem, ⟨0, _⟩ => ⟨S1x8x160x256, .bf16⟩
  | .local _ .vmem, ⟨1, _⟩ => ⟨S1x8x160x256, .bf16⟩
  | .local _ .vmem, ⟨2, _⟩ => ⟨S1x8x160x256, .bf16⟩
  | .local _ .vmem, ⟨3, _⟩ => ⟨S1x8x160x256, .bf16⟩
  | .local _ .vmem, ⟨4, _⟩ => ⟨S1x8x160x256, .bf16⟩
  | .local _ .vmem, ⟨5, _⟩ => ⟨S1x8x160x256, .bf16⟩
  | .local _ .vmem, ⟨6, _⟩ => ⟨S1x8x96x256, .bf16⟩
  | .local _ .vmem, ⟨7, _⟩ => ⟨S1x8x96x256, .bf16⟩
  | .local _ .vmem, ⟨8, _⟩ => ⟨S1x8x160x256, .bf16⟩
  | .local _ .vmem, ⟨9, _⟩ => ⟨S1x8x160x256, .bf16⟩
  | .local _ .vmem, ⟨10, _⟩ => ⟨S1x8x160x96, .f32⟩
  | .local _ .vmem, ⟨11, _⟩ => ⟨S1x8x160x96, .f32⟩
  | .local _ .vmem, ⟨12, _⟩ => ⟨S1x8x160x96, .f32⟩
  | .local _ .vmem, ⟨13, _⟩ => ⟨S1x8x160x96, .f32⟩
  | .local _ .vmem, ⟨14, _⟩ => ⟨S1x8x160x256, .fp8e4m3⟩
  | .local _ .vmem, ⟨15, _⟩ => ⟨S1x8x160x256, .fp8e4m3⟩
  | .local _ .vmem, ⟨16, _⟩ => ⟨S1x8x256, .f32⟩
  | .local _ .vmem, ⟨17, _⟩ => ⟨S1x8x256, .f32⟩
  | .local _ .vmem, ⟨18, _⟩ => ⟨S1x8x160x256, .fp8e4m3⟩
  | .local _ .vmem, ⟨19, _⟩ => ⟨S1x8x160x256, .fp8e4m3⟩
  | .local _ .vmem, ⟨20, _⟩ => ⟨S1x8x256, .f32⟩
  | .local _ .vmem, ⟨21, _⟩ => ⟨S1x8x256, .f32⟩
  | .local _ .vmem, ⟨22, _⟩ => ⟨S256x256, .bf16⟩
  | _, _ => ⟨S6x256x24x160, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev main_v4_5 : Ref sig .tc := ⟨.hbm, 13, rfl⟩
abbrev main_v4_6 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![6, 3], ![false, false]⟩

@[reducible] def k0_t1_loop : Scf.Loop 32 :=
  let c0_i32_2 : BitVec 32 := 0#32
  let c8_i32 : BitVec 32 := 8#32
  let v5 : BitVec 32 := Scalar.addi c0_i32_2 c8_i32
  let c1_i32 : BitVec 32 := 1#32
  ⟨c0_i32_2, v5, c1_i32⟩
def k0_off1 (k0_t1 : Fin k0_t1_loop.trips) : Fin 4 → Nat :=
  let c0 : Index := 0#32
  let c0_i32_5 : BitVec 32 := 0#32
  let c0_i32_2 : BitVec 32 := 0#32
  let c1_i32 : BitVec 32 := 1#32
  let arg14 : BitVec 32 := Scf.iv c0_i32_2 c1_i32 k0_t1
  let c1_i32_4 : BitVec 32 := 1#32
  let v6 : BitVec 32 := Scalar.muli arg14 c1_i32_4
  let v7 : BitVec 32 := Scalar.addi c0_i32_5 v6
  let v8 : Index := Scalar.indexCast v7
  let c0_6 : Index := 0#32
  let c0_7 : Index := 0#32
  ![0, v8.toNat, 0, 0]
def k0_off2 (k0_t1 : Fin k0_t1_loop.trips) : Fin 3 → Nat :=
  let c0_30 : Index := 0#32
  let c0_i32_5 : BitVec 32 := 0#32
  let c0_i32_2 : BitVec 32 := 0#32
  let c1_i32 : BitVec 32 := 1#32
  let arg14 : BitVec 32 := Scf.iv c0_i32_2 c1_i32 k0_t1
  let c1_i32_4 : BitVec 32 := 1#32
  let v6 : BitVec 32 := Scalar.muli arg14 c1_i32_4
  let v7 : BitVec 32 := Scalar.addi c0_i32_5 v6
  let v111 : Index := Scalar.indexCast v7
  let c0_31 : Index := 0#32
  ![0, v111.toNat, 0]
def k0_off3 (k0_t1 : Fin k0_t1_loop.trips) : Fin 4 → Nat :=
  let c0_72 : Index := 0#32
  let c0_i32_5 : BitVec 32 := 0#32
  let c0_i32_2 : BitVec 32 := 0#32
  let c1_i32 : BitVec 32 := 1#32
  let arg14 : BitVec 32 := Scf.iv c0_i32_2 c1_i32 k0_t1
  let c1_i32_4 : BitVec 32 := 1#32
  let v6 : BitVec 32 := Scalar.muli arg14 c1_i32_4
  let v7 : BitVec 32 := Scalar.addi c0_i32_5 v6
  let v225 : Index := Scalar.indexCast v7
  let c0_73 : Index := 0#32
  let c0_74 : Index := 0#32
  ![0, v225.toNat, 0, 0]
def k0_off4 (k0_t1 : Fin k0_t1_loop.trips) : Fin 4 → Nat :=
  let c0_101 : Index := 0#32
  let c0_i32_5 : BitVec 32 := 0#32
  let c0_i32_2 : BitVec 32 := 0#32
  let c1_i32 : BitVec 32 := 1#32
  let arg14 : BitVec 32 := Scf.iv c0_i32_2 c1_i32 k0_t1
  let c1_i32_4 : BitVec 32 := 1#32
  let v6 : BitVec 32 := Scalar.muli arg14 c1_i32_4
  let v7 : BitVec 32 := Scalar.addi c0_i32_5 v6
  let v319 : Index := Scalar.indexCast v7
  let c0_102 : Index := 0#32
  let c0_103 : Index := 0#32
  ![0, v319.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x160x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x160x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x160x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x96x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x160x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x160x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x160x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x160x256 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x160x256 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "log2e" => some (((Real.log 2)⁻¹ : ℝ) : EReal)
  | "score" => some (((Real.sqrt 160)⁻¹ * (Real.log 2)⁻¹ : ℝ) : EReal)
  | _ => none
-- ==== ReferenceIdeal.lean ====
abbrev S6x256x24x160 : Shape := ⟨4, ![6, 256, 24, 160]⟩
abbrev S6x256x24x96 : Shape := ⟨4, ![6, 256, 24, 96]⟩
abbrev S_ : Shape := ⟨0, ![]⟩
abbrev S6x256x24 : Shape := ⟨3, ![6, 256, 24]⟩
abbrev S6x256x24x1 : Shape := ⟨4, ![6, 256, 24, 1]⟩
abbrev S256x256 : Shape := ⟨2, ![256, 256]⟩
abbrev S6x24x96x256 : Shape := ⟨4, ![6, 24, 96, 256]⟩
abbrev S6x24x256x256 : Shape := ⟨4, ![6, 24, 256, 256]⟩
abbrev S6x24x256 : Shape := ⟨3, ![6, 24, 256]⟩
abbrev S6x24x256x1 : Shape := ⟨4, ![6, 24, 256, 1]⟩
abbrev S6x24x1x256 : Shape := ⟨4, ![6, 24, 1, 256]⟩
abbrev S6x24x160x256 : Shape := ⟨4, ![6, 24, 160, 256]⟩
abbrev S6x1x24x96 : Shape := ⟨4, ![6, 1, 24, 96]⟩
abbrev S6x24x96x160 : Shape := ⟨4, ![6, 24, 96, 160]⟩

abbrev nBuf : Space → Nat
  | .hbm => 201
  | .vmem => 6
  | .smem => 0
  | _ => 0

abbrev hbmTy0_0 (i : Nat) : BufTy := match i % 128 with
  | 0 => ⟨S6x256x24x160, .bf16⟩
  | 1 => ⟨S6x256x24x160, .bf16⟩
  | 2 => ⟨S6x256x24x160, .bf16⟩
  | 3 => ⟨S6x256x24x96, .bf16⟩
  | 4 => ⟨S6x256x24x160, .f32⟩
  | 5 => ⟨S6x256x24x160, .f32⟩
  | 6 => ⟨S_, .f32⟩
  | 7 => ⟨S6x256x24, .f32⟩
  | 8 => ⟨S_, .f32⟩
  | 9 => ⟨S6x256x24, .f32⟩
  | 10 => ⟨S6x256x24, .f32⟩
  | 11 => ⟨S6x256x24, .f32⟩
  | 12 => ⟨S_, .f32⟩
  | 13 => ⟨S_, .f32⟩
  | 14 => ⟨S_, .f32⟩
  | 15 => ⟨S6x256x24, .f32⟩
  | 16 => ⟨S6x256x24, .f32⟩
  | 17 => ⟨S6x256x24, .f32⟩
  | 18 => ⟨S_, .f32⟩
  | 19 => ⟨S6x256x24, .f32⟩
  | 20 => ⟨S6x256x24, .f32⟩
  | 21 => ⟨S_, .f32⟩
  | 22 => ⟨S6x256x24, .f32⟩
  | 23 => ⟨S6x256x24, .i1⟩
  | 24 => ⟨S_, .f32⟩
  | 25 => ⟨S_, .f32⟩
  | 26 => ⟨S6x256x24, .f32⟩
  | 27 => ⟨S6x256x24, .f32⟩
  | 28 => ⟨S_, .f32⟩
  | 29 => ⟨S_, .f32⟩
  | 30 => ⟨S_, .f32⟩
  | 31 => ⟨S6x256x24, .f32⟩
  | 32 => ⟨S6x256x24, .f32⟩
  | 33 => ⟨S6x256x24, .f32⟩
  | 34 => ⟨S6x256x24, .f32⟩
  | 35 => ⟨S_, .f32⟩
  | 36 => ⟨S_, .f32⟩
  | 37 => ⟨S_, .f32⟩
  | 38 => ⟨S6x256x24, .f32⟩
  | 39 => ⟨S6x256x24, .f32⟩
  | 40 => ⟨S6x256x24, .f32⟩
  | 41 => ⟨S6x256x24x1, .f32⟩
  | 42 => ⟨S6x256x24x160, .f32⟩
  | 43 => ⟨S6x256x24x160, .f32⟩
  | 44 => ⟨S_, .f32⟩
  | 45 => ⟨S_, .f32⟩
  | 46 => ⟨S_, .f32⟩
  | 47 => ⟨S6x256x24x160, .f32⟩
  | 48 => ⟨S6x256x24x160, .f32⟩
  | 49 => ⟨S_, .f32⟩
  | 50 => ⟨S6x256x24x160, .f32⟩
  | 51 => ⟨S6x256x24x160, .f32⟩
  | 52 => ⟨S6x256x24x160, .f32⟩
  | 53 => ⟨S6x256x24x160, .f32⟩
  | 54 => ⟨S_, .f32⟩
  | 55 => ⟨S6x256x24, .f32⟩
  | 56 => ⟨S_, .f32⟩
  | 57 => ⟨S6x256x24, .f32⟩
  | 58 => ⟨S6x256x24, .f32⟩
  | 59 => ⟨S6x256x24, .f32⟩
  | 60 => ⟨S_, .f32⟩
  | 61 => ⟨S_, .f32⟩
  | 62 => ⟨S_, .f32⟩
  | 63 => ⟨S6x256x24, .f32⟩
  | 64 => ⟨S6x256x24, .f32⟩
  | 65 => ⟨S6x256x24, .f32⟩
  | 66 => ⟨S_, .f32⟩
  | 67 => ⟨S6x256x24, .f32⟩
  | 68 => ⟨S6x256x24, .f32⟩
  | 69 => ⟨S_, .f32⟩
  | 70 => ⟨S6x256x24, .f32⟩
  | 71 => ⟨S6x256x24, .i1⟩
  | 72 => ⟨S_, .f32⟩
  | 73 => ⟨S_, .f32⟩
  | 74 => ⟨S6x256x24, .f32⟩
  | 75 => ⟨S6x256x24, .f32⟩
  | 76 => ⟨S_, .f32⟩
  | 77 => ⟨S_, .f32⟩
  | 78 => ⟨S_, .f32⟩
  | 79 => ⟨S6x256x24, .f32⟩
  | 80 => ⟨S6x256x24, .f32⟩
  | 81 => ⟨S6x256x24, .f32⟩
  | 82 => ⟨S6x256x24, .f32⟩
  | 83 => ⟨S_, .f32⟩
  | 84 => ⟨S_, .f32⟩
  | 85 => ⟨S_, .f32⟩
  | 86 => ⟨S6x256x24, .f32⟩
  | 87 => ⟨S6x256x24, .f32⟩
  | 88 => ⟨S6x256x24, .f32⟩
  | 89 => ⟨S6x256x24x1, .f32⟩
  | 90 => ⟨S6x256x24x160, .f32⟩
  | 91 => ⟨S6x256x24x160, .f32⟩
  | 92 => ⟨S_, .f32⟩
  | 93 => ⟨S_, .f32⟩
  | 94 => ⟨S_, .f32⟩
  | 95 => ⟨S6x256x24x160, .f32⟩
  | 96 => ⟨S6x256x24x160, .f32⟩
  | 97 => ⟨S_, .f32⟩
  | 98 => ⟨S6x256x24x160, .f32⟩
  | 99 => ⟨S6x256x24x160, .f32⟩
  | 100 => ⟨S6x256x24x160, .fp8e4m3⟩
  | 101 => ⟨S6x256x24x160, .fp8e4m3⟩
  | 102 => ⟨S6x256x24x160, .f32⟩
  | 103 => ⟨S6x256x24x160, .f32⟩
  | 104 => ⟨S6x256x24x1, .f32⟩
  | 105 => ⟨S6x256x24x160, .f32⟩
  | 106 => ⟨S6x256x24x160, .f32⟩
  | 107 => ⟨S6x256x24x160, .f32⟩
  | 108 => ⟨S6x256x24x96, .f32⟩
  | 109 => ⟨S6x256x24x96, .f32⟩
  | 110 => ⟨S_, .f32⟩
  | 111 => ⟨S6x256x24x96, .f32⟩
  | 112 => ⟨S6x256x24x96, .f32⟩
  | 113 => ⟨S6x256x24x96, .f32⟩
  | 114 => ⟨S6x256x24x96, .f32⟩
  | 115 => ⟨S6x256x24x96, .i1⟩
  | 116 => ⟨S6x256x24x96, .f32⟩
  | 117 => ⟨S6x256x24x96, .f32⟩
  | 118 => ⟨S6x256x24x96, .f32⟩
  | 119 => ⟨S6x256x24x96, .f32⟩
  | 120 => ⟨S6x256x24x96, .f32⟩
  | 121 => ⟨S6x256x24x96, .f32⟩
  | 122 => ⟨S6x256x24x96, .f32⟩
  | 123 => ⟨S6x256x24x96, .f32⟩
  | 124 => ⟨S6x256x24x96, .f32⟩
  | 125 => ⟨S_, .f32⟩
  | 126 => ⟨S6x256x24x96, .f32⟩
  | 127 => ⟨S6x256x24x96, .f32⟩
  | _ => ⟨S6x256x24x160, .bf16⟩

abbrev hbmTy0_1 (i : Nat) : BufTy := match i % 128 with
  | 0 => ⟨S6x256x24x96, .f32⟩
  | 1 => ⟨S6x256x24x96, .f32⟩
  | 2 => ⟨S_, .i1⟩
  | 3 => ⟨S256x256, .i1⟩
  | 4 => ⟨S256x256, .i32⟩
  | 5 => ⟨S_, .i32⟩
  | 6 => ⟨S256x256, .i32⟩
  | 7 => ⟨S256x256, .i32⟩
  | 8 => ⟨S256x256, .i32⟩
  | 9 => ⟨S256x256, .i1⟩
  | 10 => ⟨S_, .i1⟩
  | 11 => ⟨S256x256, .i1⟩
  | 12 => ⟨S256x256, .i1⟩
  | 13 => ⟨S256x256, .f32⟩
  | 14 => ⟨S6x24x96x256, .f32⟩
  | 15 => ⟨S6x256x24x96, .f32⟩
  | 16 => ⟨S6x256x24x96, .f32⟩
  | 17 => ⟨S6x256x24x96, .f32⟩
  | 18 => ⟨S6x256x24x96, .f32⟩
  | 19 => ⟨S6x256x24x96, .f32⟩
  | 20 => ⟨S6x24x256x256, .f32⟩
  | 21 => ⟨S6x24x256, .f32⟩
  | 22 => ⟨S6x24x256, .f32⟩
  | 23 => ⟨S6x24x256x1, .f32⟩
  | 24 => ⟨S6x24x256x256, .f32⟩
  | 25 => ⟨S6x24x256x256, .f32⟩
  | 26 => ⟨S6x24x1x256, .f32⟩
  | 27 => ⟨S6x24x256x256, .f32⟩
  | 28 => ⟨S6x24x256x256, .f32⟩
  | 29 => ⟨S_, .f32⟩
  | 30 => ⟨S_, .f32⟩
  | 31 => ⟨S6x24x256x256, .i1⟩
  | 32 => ⟨S6x24x256x256, .f32⟩
  | 33 => ⟨S6x24x256x256, .f32⟩
  | 34 => ⟨S6x24x96x256, .f32⟩
  | 35 => ⟨S6x256x24x96, .f32⟩
  | 36 => ⟨S6x256x24x96, .f32⟩
  | 37 => ⟨S_, .f32⟩
  | 38 => ⟨S_, .f32⟩
  | 39 => ⟨S_, .f32⟩
  | 40 => ⟨S6x256x24x96, .f32⟩
  | 41 => ⟨S6x256x24x96, .f32⟩
  | 42 => ⟨S_, .f32⟩
  | 43 => ⟨S6x256x24, .f32⟩
  | 44 => ⟨S_, .f32⟩
  | 45 => ⟨S6x256x24, .f32⟩
  | 46 => ⟨S6x256x24, .f32⟩
  | 47 => ⟨S6x256x24x1, .f32⟩
  | 48 => ⟨S6x256x24x96, .f32⟩
  | 49 => ⟨S6x256x24x96, .f32⟩
  | 50 => ⟨S6x256x24x96, .f32⟩
  | 51 => ⟨S_, .f32⟩
  | 52 => ⟨S6x256x24, .f32⟩
  | 53 => ⟨S6x256x24x1, .f32⟩
  | 54 => ⟨S6x256x24x96, .f32⟩
  | 55 => ⟨S6x256x24x96, .f32⟩
  | 56 => ⟨S6x256x24x96, .f32⟩
  | 57 => ⟨S6x24x256x256, .f32⟩
  | 58 => ⟨S_, .f32⟩
  | 59 => ⟨S_, .f32⟩
  | 60 => ⟨S6x24x256x256, .i1⟩
  | 61 => ⟨S6x24x256x256, .f32⟩
  | 62 => ⟨S6x24x256x256, .f32⟩
  | 63 => ⟨S6x24x160x256, .f32⟩
  | 64 => ⟨S6x256x24x160, .f32⟩
  | 65 => ⟨S6x256x24x160, .bf16⟩
  | 66 => ⟨S6x1x24x96, .f32⟩
  | 67 => ⟨S6x256x24x96, .f32⟩
  | 68 => ⟨S6x256x24x96, .f32⟩
  | 69 => ⟨S6x256x24x96, .f32⟩
  | 70 => ⟨S6x256x24x96, .f32⟩
  | 71 => ⟨S6x24x96x160, .f32⟩
  | 72 => ⟨S6x24x96x160, .f32⟩
  | _ => ⟨S6x256x24x160, .bf16⟩

abbrev hbmTy (i : Nat) : BufTy := match i / 128 with
  | 0 => hbmTy0_0 i
  | 1 => hbmTy0_1 i
  | _ => ⟨S6x256x24x160, .bf16⟩

abbrev bufTy : (tb : Table) → Fin (tcTables nBuf tb) → BufTy
  | .hbm, ⟨i, _⟩ => hbmTy i
  | .local _ .vmem, ⟨0, _⟩ => ⟨S6x256x24x160, .f32⟩
  | .local _ .vmem, ⟨1, _⟩ => ⟨S6x256x24x160, .f32⟩
  | .local _ .vmem, ⟨2, _⟩ => ⟨S6x256x24x160, .fp8e4m3⟩
  | .local _ .vmem, ⟨3, _⟩ => ⟨S6x256x24x160, .fp8e4m3⟩
  | .local _ .vmem, ⟨4, _⟩ => ⟨S6x256x24x160, .f32⟩
  | .local _ .vmem, ⟨5, _⟩ => ⟨S6x256x24x160, .f32⟩
  | _, _ => ⟨S6x256x24x160, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_cst_8 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_9 : Ref sig .tc := ⟨.hbm, 54, rfl⟩
abbrev main_v33 : Ref sig .tc := ⟨.hbm, 55, rfl⟩
abbrev main_cst_10 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_11 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_12 : Ref sig .tc := ⟨.hbm, 66, rfl⟩
abbrev main_v42 : Ref sig .tc := ⟨.hbm, 67, rfl⟩
abbrev main_v43 : Ref sig .tc := ⟨.hbm, 68, rfl⟩
abbrev main_cst_13 : Ref sig .tc := ⟨.hbm, 69, rfl⟩
abbrev main_v44 : Ref sig .tc := ⟨.hbm, 70, rfl⟩
abbrev main_v45 : Ref sig .tc := ⟨.hbm, 71, rfl⟩
abbrev main_cst_14 : Ref sig .tc := ⟨.hbm, 72, rfl⟩
abbrev main_call2_v0 : Ref sig .tc := ⟨.hbm, 73, rfl⟩
abbrev main_call2_v1 : Ref sig .tc := ⟨.hbm, 74, rfl⟩
abbrev main_v46 : Ref sig .tc := ⟨.hbm, 75, rfl⟩
abbrev main_cst_15 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_16 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_17 : Ref sig .tc := ⟨.hbm, 92, rfl⟩
abbrev main_cst_18 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_v61 : Ref sig .tc := ⟨.hbm, 99, rfl⟩
abbrev main_v62_0 : Ref sig .tc := ⟨.hbm, 100, rfl⟩
abbrev main_v62_1 : Ref sig .tc := ⟨.hbm, 101, rfl⟩
abbrev main_v62_2 : Ref sig .tc := ⟨.hbm, 102, rfl⟩
abbrev main_v62_3 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_call4_v0 : Ref sig .tc := ⟨.hbm, 109, rfl⟩
abbrev main_call4_call0_cst : Ref sig .tc := ⟨.hbm, 110, rfl⟩
abbrev main_call4_call0_v0 : Ref sig .tc := ⟨.hbm, 111, rfl⟩
abbrev main_call4_call0_v1 : Ref sig .tc := ⟨.hbm, 112, rfl⟩
abbrev main_call4_call0_v2 : Ref sig .tc := ⟨.hbm, 113, rfl⟩
abbrev main_call4_call0_v3 : Ref sig .tc := ⟨.hbm, 114, rfl⟩
abbrev main_call4_call0_v4 : Ref sig .tc := ⟨.hbm, 115, rfl⟩
abbrev main_call4_call0_v5 : Ref sig .tc := ⟨.hbm, 116, rfl⟩
abbrev main_call4_call0_v6 : Ref sig .tc := ⟨.hbm, 117, rfl⟩
abbrev main_call4_call0_v7 : Ref sig .tc := ⟨.hbm, 118, rfl⟩
abbrev main_call4_call0_v8 : Ref sig .tc := ⟨.hbm, 119, rfl⟩
abbrev main_call4_call0_v9 : Ref sig .tc := ⟨.hbm, 120, rfl⟩
abbrev main_call4_call0_v10 : Ref sig .tc := ⟨.hbm, 121, rfl⟩
abbrev main_call4_call0_v11 : Ref sig .tc := ⟨.hbm, 122, rfl⟩
abbrev main_call4_v1 : Ref sig .tc := ⟨.hbm, 123, rfl⟩
abbrev main_v68 : Ref sig .tc := ⟨.hbm, 124, rfl⟩
abbrev main_cst_19 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_c : Ref sig .tc := ⟨.hbm, 130, rfl⟩
abbrev main_v73 : Ref sig .tc := ⟨.hbm, 131, rfl⟩
abbrev main_call5_v0 : Ref sig .tc := ⟨.hbm, 132, rfl⟩
abbrev main_call5_c : Ref sig .tc := ⟨.hbm, 133, rfl⟩
abbrev main_call5_v1 : Ref sig .tc := ⟨.hbm, 134, rfl⟩
abbrev main_call5_v2 : Ref sig .tc := ⟨.hbm, 135, rfl⟩
abbrev main_call5_v3 : Ref sig .tc := ⟨.hbm, 136, rfl⟩
abbrev main_call5_v4 : Ref sig .tc := ⟨.hbm, 137, rfl⟩
abbrev main_call5_c_0 : Ref sig .tc := ⟨.hbm, 138, rfl⟩
abbrev main_call5_v5 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_20 : Ref sig .tc := ⟨.hbm, 157, rfl⟩
abbrev main_call6_v0 : Ref sig .tc := ⟨.hbm, 158, rfl⟩
abbrev main_call6_v1 : Ref sig .tc := ⟨.hbm, 159, rfl⟩
abbrev main_call6_v2 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_cst_21 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_cst_22 : Ref sig .tc := ⟨.hbm, 170, rfl⟩
abbrev main_v99 : Ref sig .tc := ⟨.hbm, 171, rfl⟩
abbrev main_cst_23 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_cst_24 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_cst_25 : Ref sig .tc := ⟨.hbm, 186, rfl⟩
abbrev main_call7_v0 : Ref sig .tc := ⟨.hbm, 187, rfl⟩
abbrev main_call7_v1 : Ref sig .tc := ⟨.hbm, 188, rfl⟩
abbrev main_call7_v2 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6x256x24x160 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256x24x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256x24x160 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256x24x160 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x256x24x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x256x24x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.RealArray.lean ====
/- Two-axis arrays that hold real numbers: `IsR v R` says that the array `v`, read at the ideal instance, holds the real
   `R a b` at row `a`, column `b`. One lemma per vector operation of the kernel says what real array it makes. -/
module

public import proofs.«01_k».proof.Proof.Gen.KernelIdeal.Loops
public import proofs.«01_k».proof.Proof.Gen.KernelIdeal
public import Idealize.ShloMosaic.Lib.Pointwise

@[expose] public section

set_option maxRecDepth 16384

noncomputable section

namespace Cert.Proof

open Idealize.ShloMosaic Finset

/-- The array `v` holds the extended real `V a b` at row `a`, column `b`. -/
def IsE {m n : ℕ} {φ : FTy} (v : FVec Ideal (⟨2, ![m, n]⟩ : Shape) φ) (V : ℕ → ℕ → EReal) : Prop :=
  ∀ (a : Fin m) (b : Fin n), v (ix2 a b) = V a b

/-- The array `v` holds the real number `R a b` at row `a`, column `b`. -/
def IsR {m n : ℕ} {φ : FTy} (v : FVec Ideal (⟨2, ![m, n]⟩ : Shape) φ) (R : ℕ → ℕ → ℝ) : Prop :=
  ∀ (a : Fin m) (b : Fin n), v (ix2 a b) = ((R a b : ℝ) : EReal)

/-- `f` on the first `p` numbers, then `g` counted from 0. -/
def cat {α : Type} (p : ℕ) (f g : ℕ → α) (k : ℕ) : α := if k < p then f k else g (k - p)

theorem cat_lt {α : Type} {p : ℕ} {f g : ℕ → α} {k : ℕ} (h : k < p) : cat p f g k = f k := if_pos h

theorem cat_add {α : Type} {p : ℕ} {f g : ℕ → α} {k : ℕ} : cat p f g (p + k) = g k := by
  unfold cat; rw [if_neg (by omega), Nat.add_sub_cancel_left]

/-- A sum of products of two stacked families is the sum of the two sums of products. -/
theorem sum_cat (p q : ℕ) (f g f' g' : ℕ → ℝ) :
    ∑ k ∈ range (p + q), cat p f g k * cat p f' g' k = ∑ k ∈ range p, f k * f' k + ∑ k ∈ range q, g k * g' k := by
  rw [sum_range_add]
  congr 1
  · exact sum_congr rfl fun k hk => by rw [cat_lt (mem_range.1 hk), cat_lt (mem_range.1 hk)]
  · exact sum_congr rfl fun k hk => by rw [cat_add, cat_add]

theorem coe_sum (n : ℕ) (f : ℕ → ℝ) : ∑ k : Fin n, ((f k : ℝ) : EReal) = ((∑ k ∈ range n, f k : ℝ) : EReal) := by
  rw [Finset.sum_range]
  exact (map_sum (⟨⟨fun r : ℝ => (r : EReal), rfl⟩, EReal.coe_add⟩ : ℝ →+ EReal) _ _).symm

/-- The greatest of finitely many (at least one) reals, as the fold from `-∞` takes it, is a real. -/
theorem fold_max_coe (n : ℕ) (f : ℕ → ℝ) :
    ∃ M : ℝ, (Finset.univ : Finset (Fin (n + 1))).fold max (⊥ : EReal) (fun k : Fin (n + 1) => ((f k : ℝ) : EReal)) = (M : EReal) := by
  have h := Finset.sup'_eq_sup (⟨0, mem_univ _⟩ : (univ : Finset (Fin (n + 1))).Nonempty) (fun k : Fin (n + 1) => ((f k : ℝ) : EReal))
  obtain ⟨i, -, hi⟩ := Finset.exists_mem_eq_sup' (⟨0, mem_univ _⟩ : (univ : Finset (Fin (n + 1))).Nonempty)
    (fun k : Fin (n + 1) => ((f k : ℝ) : EReal))
  exact ⟨f i, by rw [← hi, h]; rfl⟩

theorem coe_dot (n : ℕ) (f g : ℕ → ℝ) :
    ∑ k : Fin n, ((f k : ℝ) : EReal) * ((g k : ℝ) : EReal) = ((∑ k ∈ range n, f k * g k : ℝ) : EReal) := by
  rw [← coe_sum]; exact sum_congr rfl fun k _ => (EReal.coe_mul _ _).symm

namespace IsE

section Generic
variable {m n : ℕ} {φ : FTy} {x y : FVec Ideal (⟨2, ![m, n]⟩ : Shape) φ} {X Y : ℕ → ℕ → EReal}

theorem at_idx (hx : IsE x X) (i : (⟨2, ![m, n]⟩ : Shape).Idx) {p q : ℕ} (h0 : (i 0).val = p) (h1 : (i 1).val = q) :
    x i = X p q := by
  subst h0 h1; rw [eq_ix2 i]; exact hx _ _

theorem congr {R S : ℕ → ℕ → EReal} (h : IsE x R) (e : ∀ a b, a < m → b < n → R a b = S a b) : IsE x S :=
  fun a b => by rw [h a b, e a b a.isLt b.isLt]

theorem addf (hx : IsE x X) (hy : IsE y Y) : IsE (Idealize.ShloMosaic.addf x y) fun a b => X a b + Y a b := fun a b => by
  pointwise; rw [hx, hy]

theorem truncf {ψ : FTy} {h} (hx : IsE x X) : IsE (Idealize.ShloMosaic.truncf ψ x h) X := fun a b => by pointwise; exact hx a b

theorem slice {p q : ℕ} {s t : ℕ} {h} (hx : IsE x X) :
    IsE (φ := φ) (extractStridedSlice (⟨2, ![s, t]⟩ : Shape) ![p, q] x h) fun a b => X (p + a) (q + b) := fun a b =>
  hx.at_idx _ rfl rfl

theorem tr {h} (hx : IsE x X) : IsE (φ := φ) (transpose (⟨2, ![n, m]⟩ : Shape) [1, 0] x h) fun a b => X b a := fun a b =>
  hx.at_idx _ rfl rfl

end Generic
end IsE

namespace IsR

section Generic
variable {m n : ℕ} {φ : FTy} {x y : FVec Ideal (⟨2, ![m, n]⟩ : Shape) φ} {X Y : ℕ → ℕ → ℝ}

theorem at_idx (hx : IsR x X) (i : (⟨2, ![m, n]⟩ : Shape).Idx) {p q : ℕ} (h0 : (i 0).val = p) (h1 : (i 1).val = q) :
    x i = ((X p q : ℝ) : EReal) := by
  subst h0 h1; rw [eq_ix2 i]; exact hx _ _

theorem congr {R S : ℕ → ℕ → ℝ} (h : IsR x R) (e : ∀ a b, a < m → b < n → R a b = S a b) : IsR x S :=
  fun a b => by rw [h a b, e a b a.isLt b.isLt]

theorem addf (hx : IsR x X) (hy : IsR y Y) : IsR (Idealize.ShloMosaic.addf x y) fun a b => X a b + Y a b := fun a b => by
  pointwise; rw [hx, hy, EReal.coe_add]

theorem subf (hx : IsR x X) (hy : IsR y Y) : IsR (Idealize.ShloMosaic.subf x y) fun a b => X a b - Y a b := fun a b => by
  pointwise; rw [hx, hy, EReal.coe_sub]

theorem mulf (hx : IsR x X) (hy : IsR y Y) : IsR (Idealize.ShloMosaic.mulf x y) fun a b => X a b * Y a b := fun a b => by
  pointwise; rw [hx, hy, EReal.coe_mul]

theorem divf (hx : IsR x X) (hy : IsR y Y) (h0 : ∀ a b, a < m → b < n → Y a b ≠ 0) :
    IsR (Idealize.ShloMosaic.divf x y) fun a b => X a b / Y a b := fun a b => by
  pointwise; rw [hx, hy, Ideal.div_coe (h0 a b a.isLt b.isLt), ← EReal.coe_mul, mul_one_div]

theorem exp2 (hx : IsR x X) : IsR (Idealize.ShloMosaic.exp2 x) fun a b => (2 : ℝ) ^ X a b := fun a b => by
  pointwise; rw [hx]; rfl

theorem log (hx : IsR x X) (h0 : ∀ a b, a < m → b < n → 0 < X a b) : IsR (Idealize.ShloMosaic.log x) fun a b => Real.log (X a b) :=
  fun a b => by pointwise; rw [hx, Ideal.log_coe, if_neg (not_le.2 (h0 a b a.isLt b.isLt))]

theorem absf (hx : IsR x X) : IsR (Idealize.ShloMosaic.absf x) fun a b => |X a b| := fun a b => by
  pointwise; rw [hx, Ideal.absf_def, ← EReal.coe_neg]; exact (EReal.coe_strictMono.monotone.map_max).symm

theorem maximumf (hx : IsR x X) (hy : IsR y Y) : IsR (Idealize.ShloMosaic.maximumf x y) fun a b => max (X a b) (Y a b) :=
  fun a b => by pointwise; rw [hx, hy]; exact (EReal.coe_strictMono.monotone.map_max).symm

theorem minimumf (hx : IsR x X) (hy : IsR y Y) : IsR (Idealize.ShloMosaic.minimumf x y) fun a b => min (X a b) (Y a b) :=
  fun a b => by pointwise; rw [hx, hy]; exact (EReal.coe_strictMono.monotone.map_min).symm

theorem truncf {ψ : FTy} {h} (hx : IsR x X) : IsR (Idealize.ShloMosaic.truncf ψ x h) X := fun a b => by pointwise; exact hx a b

theorem extf {ψ : FTy} {h} (hx : IsR x X) : IsR (Idealize.ShloMosaic.extf ψ x h) X := fun a b => by pointwise; exact hx a b

/-- The remainder after a conversion: nothing. -/
theorem rest {x y : FVec Ideal (⟨2, ![m, n]⟩ : Shape) φ} (hx : IsR x X) (hy : IsR y X) : IsR (Idealize.ShloMosaic.subf x y) fun _ _ => 0 :=
  (hx.subf hy).congr fun a b _ _ => sub_self _

theorem const {c : Ideal φ} {r : ℝ} (h : c = (r : EReal)) : IsR (broadcast (⟨2, ![m, n]⟩ : Shape) c) fun _ _ => r :=
  fun a b => by pointwise; exact h

theorem rows {v : FVec Ideal (⟨2, ![1, n]⟩ : Shape) φ} {h} (hv : IsR v X) :
    IsR (φ := φ) (broadcastTo (⟨2, ![m, n]⟩ : Shape) v h) fun _ b => X 0 b := fun a b => by
  refine hv.at_idx _ rfl ?_
  simp only []
  split_ifs with h1
  · have := b.isLt; have h1 : n = 1 := h1; subst h1; exact (Nat.lt_one_iff.1 b.isLt).symm
  · rfl

theorem cols {v : FVec Ideal (⟨2, ![m, 1]⟩ : Shape) φ} {h} (hv : IsR v X) :
    IsR (φ := φ) (broadcastTo (⟨2, ![m, n]⟩ : Shape) v h) fun a _ => X a 0 := fun a b => by
  refine hv.at_idx _ ?_ rfl
  simp only []
  split_ifs with h1
  · have := a.isLt; have h1 : m = 1 := h1; subst h1; exact (Nat.lt_one_iff.1 a.isLt).symm
  · rfl

theorem slice {p q : ℕ} {s t : ℕ} {h} (hx : IsR x X) :
    IsR (φ := φ) (extractStridedSlice (⟨2, ![s, t]⟩ : Shape) ![p, q] x h) fun a b => X (p + a) (q + b) := fun a b =>
  hx.at_idx _ rfl rfl

theorem tr {h} (hx : IsR x X) : IsR (φ := φ) (transpose (⟨2, ![n, m]⟩ : Shape) [1, 0] x h) fun a b => X b a := fun a b =>
  hx.at_idx _ rfl rfl

end Generic

open Cert.KernelIdeal

section Concat
variable {φ : FTy} {X Y : ℕ → ℕ → ℝ}

theorem cat96x256 {x y : FVec Ideal S96x128 φ} {h} (hx : IsR x X) (hy : IsR y Y) :
    IsR (φ := φ) (concatenate S96x256 1 [⟨S96x128, x⟩, ⟨S96x128, y⟩] h) fun a b => cat 128 (X a) (Y a) b := fun a b => by
  pointwise; unfold cat
  by_cases h1 : b.val < 128
  · simp [h1, hx _ _]
  · simp [h1, hy _ _]

theorem cat128x256 {x y : FVec Ideal S128x128 φ} {h} (hx : IsR x X) (hy : IsR y Y) :
    IsR (φ := φ) (concatenate S128x256 1 [⟨S128x128, x⟩, ⟨S128x128, y⟩] h) fun a b => cat 128 (X a) (Y a) b := fun a b => by
  pointwise; unfold cat
  by_cases h1 : b.val < 128
  · simp [h1, hx _ _]
  · simp [h1, hy _ _]

theorem cat256x256 {x y : FVec Ideal S128x256 φ} {h} (hx : IsR x X) (hy : IsR y Y) :
    IsR (φ := φ) (concatenate S256x256 0 [⟨S128x256, x⟩, ⟨S128x256, y⟩] h) fun a b => cat 128 (fun k => X k b) (fun k => Y k b) a := fun a b => by
  pointwise; unfold cat
  by_cases h1 : a.val < 128
  · simp [h1, hx _ _]
  · simp [h1, hy _ _]

theorem cat256x128 {x y : FVec Ideal S128x128 φ} {h} (hx : IsR x X) (hy : IsR y Y) :
    IsR (φ := φ) (concatenate S256x128 0 [⟨S128x128, x⟩, ⟨S128x128, y⟩] h) fun a b => cat 128 (fun k => X k b) (fun k => Y k b) a := fun a b => by
  pointwise; unfold cat
  by_cases h1 : a.val < 128
  · simp [h1, hx _ _]
  · simp [h1, hy _ _]

theorem cat128x192 {x y : FVec Ideal S128x96 φ} {h} (hx : IsR x X) (hy : IsR y Y) :
    IsR (φ := φ) (concatenate S128x192 1 [⟨S128x96, x⟩, ⟨S128x96, y⟩] h) fun a b => cat 96 (X a) (Y a) b := fun a b => by
  pointwise; unfold cat
  by_cases h1 : b.val < 96
  · simp [h1, hx _ _]
  · simp [h1, hy _ _]

theorem cat192x128 {x y : FVec Ideal S96x128 φ} {h} (hx : IsR x X) (hy : IsR y Y) :
    IsR (φ := φ) (concatenate S192x128 0 [⟨S96x128, x⟩, ⟨S96x128, y⟩] h) fun a b => cat 96 (fun k => X k b) (fun k => Y k b) a := fun a b => by
  pointwise; unfold cat
  by_cases h1 : a.val < 96
  · simp [h1, hx _ _]
  · simp [h1, hy _ _]

end Concat

section Matmul
variable {φ ψ : FTy} {X Y : ℕ → ℕ → ℝ}

theorem mm96x256x256 {x : FVec Ideal S96x256 φ} {y : FVec Ideal S256x256 ψ} (hx : IsR x X) (hy : IsR y Y) :
    IsR (matmul dot_S96x256_S256x256_S96x256_1_0_0_1_n_n none x y (constant S96x256 .f32 0x00000000#32))
      fun a b => ∑ k ∈ range 256, X a k * Y k b := fun a b => by
  pointwise
  simp only [hx _ _, hy _ _]
  exact coe_dot 256 (fun k => X a k) fun k => Y k b

theorem mm96x256x160 {x : FVec Ideal S96x256 φ} {y : FVec Ideal S160x256 ψ} (hx : IsR x X) (hy : IsR y Y) :
    IsR (matmul dot_S96x256_S160x256_S96x160_1_1_0_0_n_n none x y (constant S96x160 .f32 0x00000000#32))
      fun a b => ∑ k ∈ range 256, X a k * Y b k := fun a b => by
  pointwise
  simp only [hx _ _, hy _ _]
  exact coe_dot 256 (fun k => X a k) fun k => Y b k

theorem mm256x160x256 {x : FVec Ideal S256x160 φ} {y : FVec Ideal S160x256 ψ} (hx : IsR x X) (hy : IsR y Y) :
    IsR (matmul dot_S256x160_S160x256_S256x256_1_0_0_1_n_n none x y (constant S256x256 .f32 0x00000000#32))
      fun a b => ∑ k ∈ range 160, X a k * Y k b := fun a b => by
  pointwise
  simp only [hx _ _, hy _ _]
  exact coe_dot 160 (fun k => X a k) fun k => Y k b

theorem mm96x256x128 {x : FVec Ideal S96x256 φ} {y : FVec Ideal S256x128 ψ} (hx : IsR x X) (hy : IsR y Y) :
    IsR (matmul dot_S96x256_S256x128_S96x128_1_0_0_1_n_n none x y (constant S96x128 .f32 0x00000000#32))
      fun a b => ∑ k ∈ range 256, X a k * Y k b := fun a b => by
  pointwise
  simp only [hx _ _, hy _ _]
  exact coe_dot 256 (fun k => X a k) fun k => Y k b

theorem mm128x192x128 {x : FVec Ideal S128x192 φ} {y : FVec Ideal S192x128 ψ} (hx : IsR x X) (hy : IsR y Y) :
    IsR (matmul dot_S128x192_S192x128_S128x128_1_0_0_1_n_n none x y (constant S128x128 .f32 0x00000000#32))
      fun a b => ∑ k ∈ range 192, X a k * Y k b := fun a b => by
  pointwise
  simp only [hx _ _, hy _ _]
  exact coe_dot 192 (fun k => X a k) fun k => Y k b

end Matmul
end IsR

namespace IsE
open Cert.KernelIdeal
variable {φ ψ : FTy} {X Y : ℕ → ℕ → EReal} {Z : ℕ → ℕ → ℝ}

theorem cat160x256 {x y : FVec Ideal S160x128 φ} {h} (hx : IsE x X) (hy : IsE y Y) :
    IsE (φ := φ) (concatenate S160x256 1 [⟨S160x128, x⟩, ⟨S160x128, y⟩] h) fun a b => cat 128 (X a) (Y a) b := fun a b => by
  pointwise; unfold cat
  by_cases h1 : b.val < 128
  · simp [h1, hx _ _]
  · simp [h1, hy _ _]

theorem mm160x128x128 {x : FVec Ideal S160x128 φ} {y : FVec Ideal S128x128 ψ} (hx : IsE x X) (hy : IsR y Z) :
    IsE (matmul dot_S160x128_S128x128_S160x128_1_0_0_1_n_n none x y (constant S160x128 .f32 0x00000000#32))
      fun a b => ∑ k ∈ range 128, X a k * ((Z k b : ℝ) : EReal) := fun a b => by
  pointwise
  simp only [hx _ _, hy _ _]
  exact (Finset.sum_range fun k => X a k * ((Z k b : ℝ) : EReal)).symm

theorem mm160x256x128 {x : FVec Ideal S160x256 φ} {y : FVec Ideal S256x128 ψ} (hx : IsE x X) (hy : IsR y Z) :
    IsE (matmul dot_S160x256_S256x128_S160x128_1_0_0_1_n_n none x y (constant S160x128 .f32 0x00000000#32))
      fun a b => ∑ k ∈ range 256, X a k * ((Z k b : ℝ) : EReal) := fun a b => by
  pointwise
  simp only [hx _ _, hy _ _]
  exact (Finset.sum_range fun k => X a k * ((Z k b : ℝ) : EReal)).symm

theorem mm96x256x160 {x : FVec Ideal S96x256 φ} {y : FVec Ideal S160x256 ψ} (hx : IsR x Z) (hy : IsE y X) :
    IsE (matmul dot_S96x256_S160x256_S96x160_1_1_0_0_n_n none x y (constant S96x160 .f32 0x00000000#32))
      fun a b => ∑ k ∈ range 256, ((Z a k : ℝ) : EReal) * X b k := fun a b => by
  pointwise
  simp only [hx _ _, hy _ _]
  exact (Finset.sum_range fun k => ((Z a k : ℝ) : EReal) * X b k).symm

end IsE

end Cert.Proof
end
-- ==== Proof.HeadMath.lean ====
/- The mathematics of one head over the reals: the forget gates' running sums, the scores, the softmax over slots, the
   token weights; and the equations between these and the block-wise form in which the kernel computes them. -/
module

public import Idealize.ShloMosaic.Lib.Pointwise

@[expose] public section

noncomputable section

namespace Cert.Proof

open Finset

/-- The log forget gate of the logit `f`: `log (sigmoid f) / 8`. -/
def la (F : ℕ → ℕ → ℝ) (j t : ℕ) : ℝ := -(Real.log (1 + Real.exp (-F j t)) / 8)

/-- The write weight: one minus the forget gate. -/
def gw (F : ℕ → ℕ → ℝ) (j t : ℕ) : ℝ := 1 - Real.exp (la F j t)

/-- The running sum of the log forget gates. -/
def cB (F : ℕ → ℕ → ℝ) (j t : ℕ) : ℝ := ∑ s ∈ range (t + 1), la F j s

/-- The score of slot `j` at token `t`. -/
def zz (F A : ℕ → ℕ → ℝ) (j t : ℕ) : ℝ :=
  Real.exp (cB F j t) * (∑ s ∈ range 256, (if s ≤ t then A s t else 0) * (Real.exp (-cB F j s) * gw F j s)) / Real.sqrt 160

/-- The softmax of the scores over the 96 slots. -/
def pp (F A : ℕ → ℕ → ℝ) (j t : ℕ) : ℝ := Real.exp (zz F A j t) / ∑ i ∈ range 96, Real.exp (zz F A i t)

/-- The weight of token `s` in the result at token `t`. -/
def pw (F A : ℕ → ℕ → ℝ) (s t : ℕ) : ℝ :=
  if s ≤ t then ∑ j ∈ range 96, pp F A j t * Real.exp (cB F j t) * (Real.exp (-cB F j s) * gw F j s) else 0

/-- The weight of token `s` in the final state of slot `j`. -/
def wl (F : ℕ → ℕ → ℝ) (j s : ℕ) : ℝ := Real.exp (cB F j 255 - cB F j s) * gw F j s

/-- The token in the middle of the 128-token block of `t`. -/
def mid (t : ℕ) : ℕ := t / 128 * 128 + 63

/-- The matrix that sums log gates from the middle of a block to a token. -/
def dec (s t : ℕ) : ℝ :=
  if t / 128 * 128 + 64 ≤ s ∧ s ≤ t then -(1 / 8) else if s < t / 128 * 128 + 64 ∧ t < s ∧ t / 128 * 128 ≤ s then 1 / 8 else 0

theorem log2_pos : 0 < Real.log 2 := Real.log_pos (by norm_num)

theorem two_rpow (x : ℝ) : (2 : ℝ) ^ x = Real.exp (x * Real.log 2) := by
  rw [Real.rpow_def_of_pos (by norm_num), mul_comm]

theorem two_rpow_div (x : ℝ) : (2 : ℝ) ^ (x / Real.log 2) = Real.exp x := by
  rw [two_rpow, div_mul_cancel₀ _ log2_pos.ne']

/-- The kernel's base-two softplus. -/
theorem softplus_eq (f : ℝ) :
    max (0 - f * (Real.log 2)⁻¹) 0 + Real.log (1 + (2 : ℝ) ^ (0 - |f * (Real.log 2)⁻¹|)) * (Real.log 2)⁻¹
      = Real.log (1 + Real.exp (-f)) / Real.log 2 := by
  have hL := log2_pos
  rcases le_or_gt 0 f with h | h
  · have h' : 0 ≤ f * (Real.log 2)⁻¹ := by positivity
    rw [abs_of_nonneg h', max_eq_right (by linarith), zero_sub, ← neg_mul, ← div_eq_mul_inv (-f), two_rpow_div, zero_add,
      div_eq_mul_inv]
  · have h' : f * (Real.log 2)⁻¹ < 0 := mul_neg_of_neg_of_pos h (by positivity)
    rw [abs_of_neg h', max_eq_left (by linarith), zero_sub, zero_sub, neg_neg, ← div_eq_mul_inv f, two_rpow_div,
      show 1 + Real.exp (-f) = Real.exp (-f) * (1 + Real.exp f) by
        rw [mul_add, mul_one, ← Real.exp_add, neg_add_cancel, Real.exp_zero, add_comm],
      Real.log_mul (Real.exp_pos _).ne' (by positivity), Real.log_exp]
    field_simp

/-- The kernel's quotient for the write weight. -/
theorem write_weight_eq (F : ℕ → ℕ → ℝ) (j t : ℕ) (u y α : ℝ)
    (hu : u = (2 : ℝ) ^ (0 - |F j t * (Real.log 2)⁻¹|)) (hy : y = 1 + u)
    (hα : α = (2 : ℝ) ^ (-8 * la F j t / Real.log 2 * (-(1 / 8)))) :
    (if 0 ≤ F j t * (Real.log 2)⁻¹ then u else 1) / ((1 + α) * (1 + α * α) * ((1 + α * α * (α * α)) * y)) = gw F j t := by
  have hL := log2_pos
  have hα' : α = Real.exp (la F j t) := by
    rw [hα, ← two_rpow_div]; congr 1; ring
  have hα0 : 0 < α := hα' ▸ Real.exp_pos _
  have h8 : α ^ 8 = 1 / (1 + Real.exp (-F j t)) := by
    rw [hα', ← Real.exp_nat_mul, la, show ((8 : ℕ) : ℝ) * -(Real.log (1 + Real.exp (-F j t)) / 8) = -Real.log (1 + Real.exp (-F j t)) by
      push_cast; ring, Real.exp_neg, Real.exp_log (by positivity), one_div]
  have hu0 : 0 < u := hu ▸ Real.rpow_pos_of_pos (by norm_num) _
  have hq : (if 0 ≤ F j t * (Real.log 2)⁻¹ then u else 1) / y = 1 - α ^ 8 := by
    rw [h8, hy]
    rcases le_or_gt 0 (F j t) with h | h
    · have h' : 0 ≤ F j t * (Real.log 2)⁻¹ := by positivity
      rw [if_pos h', hu, abs_of_nonneg h', zero_sub, ← neg_mul, ← div_eq_mul_inv (-F j t), two_rpow_div]
      have := Real.exp_pos (-F j t)
      field_simp; ring
    · have h' : F j t * (Real.log 2)⁻¹ < 0 := mul_neg_of_neg_of_pos h (by positivity)
      rw [if_neg (not_le.2 h'), hu, abs_of_neg h', zero_sub, neg_neg, ← div_eq_mul_inv (F j t), two_rpow_div, Real.exp_neg]
      have := Real.exp_pos (F j t)
      field_simp; ring
  have hy0 : 0 < y := by rw [hy]; positivity
  rw [gw, ← hα']
  rw [div_eq_iff hy0.ne'] at hq
  rw [hq, div_eq_iff (by positivity)]
  ring

theorem cB_sub (F : ℕ → ℕ → ℝ) (j : ℕ) {a b : ℕ} (h : a ≤ b) : cB F j b - cB F j a = ∑ s ∈ Ico (a + 1) (b + 1), la F j s := by
  rw [sum_Ico_eq_sub _ (by omega)]; rfl

/-- The decay matrix sums the log gates between the middle of the block and the token. -/
theorem dec_sum (F : ℕ → ℕ → ℝ) (j t : ℕ) (ht : t < 256) :
    ∑ s ∈ range 256, -8 * la F j s / Real.log 2 * dec s t = (cB F j t - cB F j (mid t)) / Real.log 2 := by
  have hL := log2_pos
  rcases le_or_gt (mid t) t with h | h
  · rw [cB_sub F j h, sum_div]
    refine Eq.trans (b := ∑ s ∈ range 256, if s ∈ Ico (mid t + 1) (t + 1) then la F j s / Real.log 2 else 0) ?_ ?_
    · refine sum_congr rfl fun s hs => ?_
      unfold dec mid at *
      simp only [mem_Ico]
      by_cases h1 : t / 128 * 128 + 64 ≤ s ∧ s ≤ t
      · rw [if_pos h1, if_pos (by omega)]; ring
      · rw [if_neg h1, if_neg (by omega), if_neg (by omega), mul_zero]
    · rw [← sum_filter]
      refine sum_congr ?_ fun _ _ => rfl
      ext s; simp only [mem_filter, mem_range, mem_Ico]; omega
  · rw [← neg_sub, cB_sub F j h.le, neg_div, sum_div, ← sum_neg_distrib]
    refine Eq.trans (b := ∑ s ∈ range 256, if s ∈ Ico (t + 1) (mid t + 1) then -(la F j s / Real.log 2) else 0) ?_ ?_
    · refine sum_congr rfl fun s hs => ?_
      unfold dec mid at *
      simp only [mem_Ico]
      by_cases h1 : s < t / 128 * 128 + 64 ∧ t < s ∧ t / 128 * 128 ≤ s
      · rw [if_neg (by omega), if_pos h1, if_pos (by omega)]; ring
      · rw [if_neg (by omega), if_neg h1, if_neg (by omega), mul_zero]
    · rw [← sum_filter]
      refine sum_congr ?_ fun _ _ => rfl
      ext s; simp only [mem_filter, mem_range, mem_Ico]; unfold mid at *; omega

theorem mid_lt {t : ℕ} (h : t < 128) : mid t = 63 := by unfold mid; omega
theorem mid_add {t : ℕ} (h : t < 128) : mid (128 + t) = 191 := by unfold mid; omega

/-- The write weights relative to the middle of the block. -/
def gm (F : ℕ → ℕ → ℝ) (j t : ℕ) : ℝ := gw F j t * Real.exp (cB F j (mid t) - cB F j t)

theorem gm_div (F : ℕ → ℕ → ℝ) (j t : ℕ) : gw F j t / Real.exp (cB F j t - cB F j (mid t)) = gm F j t := by
  rw [gm, div_eq_mul_inv, ← Real.exp_neg, neg_sub]

/-- The step from the middle of the first block to the middle of the second. -/
theorem step_eq (F : ℕ → ℕ → ℝ) (j : ℕ) :
    (2 : ℝ) ^ ((cB F j 127 - cB F j (mid 127)) / Real.log 2 - (cB F j 128 - cB F j (mid 128)) / Real.log 2
      - -8 * la F j 128 / Real.log 2 * (1 / 8)) = Real.exp (cB F j 191 - cB F j 63) := by
  rw [← two_rpow_div]
  have h := cB_sub F j (show 127 ≤ 128 by norm_num)
  rw [show Ico (127 + 1) (128 + 1) = ({128} : Finset ℕ) by decide, sum_singleton] at h
  rw [show mid 127 = 63 by decide, show mid 128 = 191 by decide]
  congr 1
  rw [← h]; ring

/-- The scores in the first block. -/
theorem score0_eq (F A : ℕ → ℕ → ℝ) (j t : ℕ) (ht : t < 128) :
    Real.exp (cB F j t - cB F j (mid t)) * (∑ s ∈ range 128, gm F j s * if s ≤ t then A s t else 0)
      = zz F A j t * Real.sqrt 160 := by
  have h160 : Real.sqrt 160 ≠ 0 := (Real.sqrt_pos.2 (by norm_num)).ne'
  rw [zz, div_mul_cancel₀ _ h160, show (256 : ℕ) = 128 + 128 from rfl, sum_range_add,
    sum_eq_zero (s := range 128) (f := fun x => (if 128 + x ≤ t then A (128 + x) t else 0) * _) fun x _ => by
      rw [if_neg (by omega), zero_mul], add_zero, mul_sum, mul_sum]
  refine sum_congr rfl fun s hs => ?_
  have hs := mem_range.1 hs
  rw [gm, mid_lt ht, mid_lt hs, show cB F j t - cB F j 63 = cB F j t + -cB F j 63 by ring,
    show cB F j 63 - cB F j s = -cB F j s + cB F j 63 by ring, Real.exp_add, Real.exp_add, Real.exp_neg (cB F j 63)]
  field_simp

/-- The scores in the second block. -/
theorem score1_eq (F A : ℕ → ℕ → ℝ) (j t : ℕ) (ht : t < 128) :
    Real.exp (cB F j (128 + t) - cB F j (mid (128 + t))) * ((∑ s ∈ range 128, gm F j (128 + s) * if s ≤ t then A (128 + s) (128 + t) else 0)
        + Real.exp (cB F j 191 - cB F j 63) * ∑ s ∈ range 128, gm F j s * A s (128 + t))
      = zz F A j (128 + t) * Real.sqrt 160 := by
  have h160 : Real.sqrt 160 ≠ 0 := (Real.sqrt_pos.2 (by norm_num)).ne'
  rw [zz, div_mul_cancel₀ _ h160, show (256 : ℕ) = 128 + 128 from rfl, sum_range_add, mul_add, mul_add, mul_sum, mul_sum, mul_sum, mul_sum,
    mul_sum]
  refine (add_comm _ _).trans ?_
  congr 1
  · refine sum_congr rfl fun s hs => ?_
    have hs := mem_range.1 hs
    rw [gm, mid_add ht, mid_lt hs, if_pos (by omega), show cB F j (128 + t) - cB F j 191 = cB F j (128 + t) + -cB F j 191 by ring,
      show cB F j 191 - cB F j 63 = cB F j 191 + -cB F j 63 by ring,
      show cB F j 63 - cB F j s = -cB F j s + cB F j 63 by ring, Real.exp_add, Real.exp_add, Real.exp_add, Real.exp_neg (cB F j 191),
      Real.exp_neg (cB F j 63)]
    field_simp
  · refine sum_congr rfl fun s hs => ?_
    have hs := mem_range.1 hs
    rw [gm, mid_add ht, mid_add hs, show cB F j (128 + t) - cB F j 191 = cB F j (128 + t) + -cB F j 191 by ring,
      show cB F j 191 - cB F j (128 + s) = -cB F j (128 + s) + cB F j 191 by ring, Real.exp_add, Real.exp_add, Real.exp_neg (cB F j 191)]
    simp only [show (128 + s ≤ 128 + t) = (s ≤ t) by simp]
    split_ifs
    · field_simp
    · ring

/-- The softmax in base two, shifted by any number. -/
theorem softmax_eq (F A : ℕ → ℕ → ℝ) (j t : ℕ) (M : ℝ) (y : ℕ → ℝ)
    (hy : ∀ i < 96, y i = zz F A i t * Real.sqrt 160 * ((Real.sqrt 160)⁻¹ * (Real.log 2)⁻¹)) (hj : j < 96) (e : ℝ) :
    (2 : ℝ) ^ (y j - M) * e * (1 / ∑ i ∈ range 96, (2 : ℝ) ^ (y i - M)) = pp F A j t * e := by
  have h160 : Real.sqrt 160 ≠ 0 := (Real.sqrt_pos.2 (by norm_num)).ne'
  have hL := log2_pos
  have h : ∀ i < 96, (2 : ℝ) ^ (y i - M) = Real.exp (zz F A i t) * (2 : ℝ) ^ (-M) := fun i hi => by
    rw [hy i hi, sub_eq_add_neg, Real.rpow_add (by norm_num), ← two_rpow_div (zz F A i t)]
    congr 2; field_simp
  rw [h j hj, sum_congr rfl fun i hi => h i (mem_range.1 hi), ← sum_mul, pp]
  have h2 : (0 : ℝ) < 2 ^ (-M) := Real.rpow_pos_of_pos (by norm_num) _
  have hs : 0 < ∑ i ∈ range 96, Real.exp (zz F A i t) := sum_pos (fun i _ => Real.exp_pos _) ⟨0, by simp⟩
  field_simp

/-- The weights of the tokens of the same block. -/
theorem weight_eq (F A : ℕ → ℕ → ℝ) (s t : ℕ) (h : mid s = mid t) (p : ℕ → ℝ)
    (hp : ∀ j < 96, p j = pp F A j t * Real.exp (cB F j t - cB F j (mid t))) :
    (if s ≤ t then ∑ j ∈ range 96, gm F j s * p j else 0) = pw F A s t := by
  rw [pw]
  refine if_congr Iff.rfl (sum_congr rfl fun j hj => ?_) rfl
  rw [hp j (mem_range.1 hj), gm, h, show cB F j t - cB F j (mid t) = cB F j t + -cB F j (mid t) by ring,
    show cB F j (mid t) - cB F j s = -cB F j s + cB F j (mid t) by ring, Real.exp_add, Real.exp_add, Real.exp_neg (cB F j (mid t))]
  field_simp

/-- The weights of the first block's tokens in the second block. -/
theorem weight01_eq (F A : ℕ → ℕ → ℝ) (s t : ℕ) (hs : s < 128) (ht : t < 128) (p : ℕ → ℝ)
    (hp : ∀ j < 96, p j = pp F A j (128 + t) * Real.exp (cB F j (128 + t) - cB F j (mid (128 + t)))) :
    ∑ j ∈ range 96, gm F j s * (p j * Real.exp (cB F j 191 - cB F j 63)) = pw F A s (128 + t) := by
  rw [pw, if_pos (by omega)]
  refine sum_congr rfl fun j hj => ?_
  rw [hp j (mem_range.1 hj), gm, mid_lt hs, mid_add ht, show cB F j (128 + t) - cB F j 191 = cB F j (128 + t) + -cB F j 191 by ring,
    show cB F j 191 - cB F j 63 = cB F j 191 + -cB F j 63 by ring,
    show cB F j 63 - cB F j s = -cB F j s + cB F j 63 by ring, Real.exp_add, Real.exp_add, Real.exp_add, Real.exp_neg (cB F j 191),
    Real.exp_neg (cB F j 63)]
  field_simp

/-- The final weights, from the weights relative to the middles. -/
theorem wl0_eq (F : ℕ → ℕ → ℝ) (j s : ℕ) (hs : s < 128) :
    gm F j s * (Real.exp (cB F j 255 - cB F j 191) * Real.exp (cB F j 191 - cB F j 63)) = wl F j s := by
  rw [gm, wl, mid_lt hs, ← Real.exp_add, mul_assoc, ← Real.exp_add, mul_comm]; congr 2; ring

theorem wl1_eq (F : ℕ → ℕ → ℝ) (j s : ℕ) (hs : s < 128) :
    gm F j (128 + s) * Real.exp (cB F j 255 - cB F j 191) = wl F j (128 + s) := by
  rw [gm, wl, mid_add hs, mul_assoc, ← Real.exp_add, mul_comm]; congr 2; ring

end Cert.Proof
end
-- ==== Proof.Head.lean ====
/- The kernel's body on one head, at the ideal instance: each array of the chain holds the real array of the mathematics of a
   head (`HeadMath`). The chain starts from the arrays read: the forget logits, the decay matrix, the queries' and the keys'
   dequantised arrays. -/
module

public import proofs.«01_k».proof.Proof.RealArray
public import proofs.«01_k».proof.Proof.HeadMath

@[expose] public section

set_option maxRecDepth 16384

noncomputable section

namespace Cert.Proof.Head

open Idealize.ShloMosaic Idealize.ShloMosaic.TcCoe Finset Cert.KernelIdeal Cert.KernelIdeal.Gen Cert.KernelIdeal.Gen.trip_k0_t1

theorem zero32 : (FloatOps.ofBits .f32 0x00000000#32 : Ideal .f32) = ((0 : ℝ) : EReal) := by
  simp [Ideal.ofBits_def, Ideal.ofBits, Ideal.ieee, -EReal.coe_mul]
theorem one32 : (FloatOps.ofBits .f32 0x3F800000#32 : Ideal .f32) = ((1 : ℝ) : EReal) := by
  simp [Ideal.ofBits_def, Ideal.ofBits, Ideal.ieee, -EReal.coe_mul]; norm_num
theorem eighth32 : (FloatOps.ofBits .f32 0x3E000000#32 : Ideal .f32) = ((1 / 8 : ℝ) : EReal) := by
  simp [Ideal.ofBits_def, Ideal.ofBits, Ideal.ieee, -EReal.coe_mul]; norm_num
theorem neg_eighth32 : (FloatOps.ofBits .f32 0xBE000000#32 : Ideal .f32) = ((-(1 / 8) : ℝ) : EReal) := by
  simp [Ideal.ofBits_def, Ideal.ofBits, Ideal.ieee, -EReal.coe_mul]; norm_num
theorem log2e : Named.named (F := Ideal) Cert.KernelIdeal.κ "log2e" (φ := .f32) 0x3FB8AA3B#32 = (((Real.log 2)⁻¹ : ℝ) : EReal) :=
  IdealRules.named_const.ideal_named_scalar _ _ _ _ rfl
theorem score : Named.named (F := Ideal) Cert.KernelIdeal.κ "score" (φ := .f32) 0x3DE995B3#32
    = (((Real.sqrt 160)⁻¹ * (Real.log 2)⁻¹ : ℝ) : EReal) :=
  IdealRules.named_const.ideal_named_scalar _ _ _ _ rfl

section Gates
variable (x : Vec Ideal S1x1x96x256 .bf16) (F : ℕ → ℕ → ℝ)
  (hF : IsR (φ := .bf16) (shapeCast S96x256 x shapeCasts_S1x1x96x256_S96x256) F)
include hF

theorem pay28 : IsR (k0_pay28 x) fun j t => F j t * (Real.log 2)⁻¹ := (hF.extf).mulf (.const log2e)

theorem pay29 : IsR (k0_pay29 x) fun j t => (2 : ℝ) ^ (0 - |F j t * (Real.log 2)⁻¹|) :=
  ((IsR.const zero32).subf (pay28 x F hF).absf).exp2

theorem pay30 : IsR (k0_pay30 x) fun j t => 1 + (2 : ℝ) ^ (0 - |F j t * (Real.log 2)⁻¹|) := (IsR.const one32).addf (pay29 x F hF)

/-- The base-two softplus of the negated logits. -/
theorem pay31 : IsR (k0_pay31 x) fun j t => -8 * la F j t / Real.log 2 :=
  ((((IsR.const zero32).subf (pay28 x F hF)).maximumf (.const zero32)).addf
    (((pay30 x F hF).log fun a b _ _ => by positivity).mulf (.const log2e))).congr fun j t _ _ => by
      rw [softplus_eq, la]; ring

/-- The write weights. -/
theorem pay32 : IsR (k0_pay32 x) (gw F) := by
  have hα := ((pay31 x F hF).mulf (.const neg_eighth32)).exp2
  have h2 := hα.mulf hα
  have h4 := h2.mulf h2
  have hu := pay29 x F hF
  have hf := pay28 x F hF
  have hsel : IsR (select (cmpf .oge (k0_pay28 x) (broadcast S96x256 (Scalar.ofBits .f32 0x00000000#32)))
      (k0_pay29 x) (broadcast S96x256 (Scalar.ofBits .f32 0x3F800000#32)))
      fun j t => if 0 ≤ F j t * (Real.log 2)⁻¹ then (2 : ℝ) ^ (0 - |F j t * (Real.log 2)⁻¹|) else 1 := fun a b => by
    pointwise
    rw [hf, hu]
    by_cases h : 0 ≤ F a b * (Real.log 2)⁻¹
    · rw [if_pos h, if_pos (by exact_mod_cast h)]
    · rw [if_neg h, if_neg (by exact_mod_cast h)]; rfl
  refine (hsel.divf ((((IsR.const one32).addf hα).mulf ((IsR.const one32).addf h2)).mulf
    (((IsR.const one32).addf h4).mulf (pay30 x F hF))) fun a b _ _ => by positivity).congr fun j t _ _ => ?_
  exact write_weight_eq F j t _ _ _ rfl rfl rfl

end Gates

section Chain
variable {arg2 : Memref sig .tc .vmem S1x8x160x256 .bf16} {arg3 : Memref sig .tc .vmem S1x8x160x256 .bf16} {arg4 : Memref sig .tc .vmem S1x8x160x256 .bf16}
  {arg5 : Memref sig .tc .vmem S1x8x96x256 .bf16} {arg13 : Memref sig .tc .vmem S256x256 .bf16}
  {X2 : BufTy.Contents (Elt Ideal) arg2.view.ty} {X3 : BufTy.Contents (Elt Ideal) arg3.view.ty} {X4 : BufTy.Contents (Elt Ideal) arg4.view.ty}
  {X5 : BufTy.Contents (Elt Ideal) arg5.view.ty} {X13 : BufTy.Contents (Elt Ideal) arg13.view.ty} {k : Fin k0_t1_loop.trips}
  {F KH QH : ℕ → ℕ → ℝ} {V : ℕ → ℕ → EReal}

/-- What the gates' part of the chain starts from: the softplus, the write weights and the decay matrix. -/
structure Gates (arg5 : Memref sig .tc .vmem S1x8x96x256 .bf16) (arg13 : Memref sig .tc .vmem S256x256 .bf16)
    (X5 : BufTy.Contents (Elt Ideal) arg5.view.ty) (X13 : BufTy.Contents (Elt Ideal) arg13.view.ty) (k : Fin k0_t1_loop.trips)
    (F : ℕ → ℕ → ℝ) : Prop where
  h1 : IsR (sl.r_1 (F := Ideal) arg5 X5 k) fun j t => -8 * la F j t / Real.log 2
  h2 : IsR (sl.r_2 (F := Ideal) arg5 X5 k) (gw F)
  hD : IsR (φ := .bf16) (sl.r_3 (F := Ideal) arg13 X13) dec

theorem v276 (H : Gates arg5 arg13 X5 X13 k F) : IsR (sl.v276 (F := Ideal) arg5 arg13 X5 X13 k) fun j t => (cB F j t - cB F j (mid t)) / Real.log 2 := by
  have a : IsR (sl.v265 (F := Ideal) arg5 X5 k) _ := IsR.truncf H.h1
  have b : IsR (sl.v267 (F := Ideal) arg5 X5 k) _ := IsR.rest H.h1 (IsR.extf a)
  have c : IsR (sl.v268 (F := Ideal) arg5 X5 k) _ := IsR.truncf b
  have d : IsR (sl.v271 (F := Ideal) arg5 X5 k) _ := IsR.truncf (IsR.rest b (IsR.extf c))
  refine IsR.congr (IsR.addf (IsR.addf (IsR.mm96x256x256 a H.hD) (IsR.mm96x256x256 c H.hD)) (IsR.mm96x256x256 d H.hD)) fun j t _ ht => ?_
  simp only [zero_mul, sum_const_zero, add_zero]
  exact dec_sum F j t ht

theorem v277 (H : Gates arg5 arg13 X5 X13 k F) : IsR (sl.v277 (F := Ideal) arg5 arg13 X5 X13 k) fun j t => Real.exp (cB F j t - cB F j (mid t)) :=
  IsR.congr (IsR.exp2 (v276 H)) fun j t _ _ => two_rpow_div _

theorem v286 (H : Gates arg5 arg13 X5 X13 k F) : IsR (sl.v286 (F := Ideal) arg5 arg13 X5 X13 k) fun j _ => Real.exp (cB F j 191 - cB F j 63) := by
  have a := v276 H
  refine IsR.congr (IsR.exp2 (IsR.subf (IsR.subf a.slice a.slice) (IsR.mulf H.h1.slice (IsR.const eighth32)))) fun j t _ ht => ?_
  obtain rfl : t = 0 := by omega
  simpa only [zero_add, add_zero] using step_eq F j

theorem v288 (H : Gates arg5 arg13 X5 X13 k F) : IsR (sl.v288 (F := Ideal) arg5 arg13 X5 X13 k) fun j _ => Real.exp (cB F j 255 - cB F j 191) := by
  refine IsR.congr (IsR.exp2 (v276 H).slice) fun j t _ ht => ?_
  obtain rfl : t = 0 := by omega
  simp only [zero_add, add_zero]
  exact two_rpow_div (cB F j 255 - cB F j 191)

theorem v289 (H : Gates arg5 arg13 X5 X13 k F) : IsR (sl.v289 (F := Ideal) arg5 arg13 X5 X13 k) fun j _ =>
    Real.exp (cB F j 255 - cB F j 191) * Real.exp (cB F j 191 - cB F j 63) :=
  IsR.mulf (v288 H) (v286 H)

theorem v278 (H : Gates arg5 arg13 X5 X13 k F) : IsR (sl.v278 (F := Ideal) arg5 arg13 X5 X13 k) (gm F) :=
  IsR.congr (IsR.divf H.h2 (v277 H) fun _ _ _ _ => (Real.exp_pos _).ne') fun j t _ _ => gm_div F j t

theorem v296 (H : Gates arg5 arg13 X5 X13 k F) : IsR (sl.v296 (F := Ideal) arg5 arg13 X5 X13 k) (wl F) := by
  have g := v278 H
  refine IsR.congr (IsR.cat96x256 (IsR.mulf g.slice (v289 H).cols) (IsR.mulf g.slice (v288 H).cols)) fun j t _ ht => ?_
  rcases lt_or_ge t 128 with h | h
  · rw [cat_lt h]
    simp only [zero_add]
    exact wl0_eq F j t h
  · obtain ⟨u, rfl⟩ := Nat.exists_eq_add_of_le h
    rw [cat_add]
    simp only [zero_add]
    exact wl1_eq F j u (by omega)

theorem v297 (H : Gates arg5 arg13 X5 X13 k F) : IsR (sl.v297 (F := Ideal) arg5 arg13 X5 X13 k) (wl F) := IsR.truncf (v296 H)
theorem v299 (H : Gates arg5 arg13 X5 X13 k F) : IsR (sl.v299 (F := Ideal) arg5 arg13 X5 X13 k) fun _ _ => 0 := IsR.rest (v296 H) (IsR.extf (v297 H))
theorem v300 (H : Gates arg5 arg13 X5 X13 k F) : IsR (sl.v300 (F := Ideal) arg5 arg13 X5 X13 k) fun _ _ => 0 := IsR.truncf (v299 H)
theorem v303 (H : Gates arg5 arg13 X5 X13 k F) : IsR (sl.v303 (F := Ideal) arg5 arg13 X5 X13 k) fun _ _ => 0 :=
  IsR.truncf (IsR.rest (v299 H) (IsR.extf (v300 H)))

/-- The final state of the keys. -/
theorem v318 (H : Gates arg5 arg13 X5 X13 k F) (hK : IsR (sl.v213 (F := Ideal) arg3 X3 k) KH) : IsR (sl.v318 (F := Ideal) arg3 arg5 arg13 X3 X5 X13 k) fun d j => ∑ s ∈ range 256, wl F j s * KH d s := by
  refine IsR.congr (IsR.tr (IsR.addf (IsR.addf (IsR.addf (IsR.const zero32) (IsR.mm96x256x160 (v297 H) hK))
    (IsR.mm96x256x160 (v300 H) hK)) (IsR.mm96x256x160 (v303 H) hK))) fun d j _ _ => ?_
  simp only [zero_mul, sum_const_zero, add_zero, zero_add]

/-- The final state of the values. -/
theorem v323 (H : Gates arg5 arg13 X5 X13 k F) (hV : IsE (sl.r (F := Ideal) arg4 X4 k) V) : IsE (sl.v323 (F := Ideal) arg4 arg5 arg13 X4 X5 X13 k) fun d j => ∑ s ∈ range 256, ((wl F j s : ℝ) : EReal) * V d s := by
  have z : IsE (sl.v305 (F := Ideal)) fun _ _ => 0 := fun a b => (IsR.const (m := 96) (n := 160) zero32) a b
  refine IsE.congr (IsE.tr (IsE.addf (IsE.addf (IsE.addf z (IsE.mm96x256x160 (v297 H) hV))
    (IsE.mm96x256x160 (v300 H) hV)) (IsE.mm96x256x160 (v303 H) hV))) fun d j _ _ => ?_
  simp only [EReal.coe_zero, zero_mul, sum_const_zero, add_zero, zero_add]

end Chain

end Cert.Proof.Head
end
-- ==== Proof.Scores.lean ====
/- The vector operations of the scores and weights: products of operands split in three parts, the causal mask, the softmax. -/
module

public import proofs.«01_k».proof.Proof.Head

@[expose] public section

set_option maxRecDepth 2000

noncomputable section

namespace Cert.Proof.Head

open Idealize.ShloMosaic Idealize.ShloMosaic.TcCoe Finset Cert.KernelIdeal Cert.KernelIdeal.Gen Cert.KernelIdeal.Gen.trip_k0_t1

/-- The three parts of a value in the narrow format: at the ideal instance the first is the value, the others are 0. -/
theorem split3 {m n : ℕ} {x : FVec Ideal (⟨2, ![m, n]⟩ : Shape) .f32} {X : ℕ → ℕ → ℝ} {h0 h1 h2 e0 e1} (hx : IsR x X) :
    IsR (truncf .bf16 x h0) X ∧ IsR (truncf .bf16 (subf x (extf .f32 (truncf .bf16 x h0) e0)) h1) (fun _ _ => 0) ∧
    IsR (truncf .bf16 (subf (subf x (extf .f32 (truncf .bf16 x h0) e0))
      (extf .f32 (truncf .bf16 (subf x (extf .f32 (truncf .bf16 x h0) e0)) h1) e1)) h2) (fun _ _ => 0) :=
  have a := IsR.truncf (ψ := .bf16) (h := h0) hx
  have b := IsR.rest hx (a.extf (h := e0))
  have c := IsR.truncf (ψ := .bf16) (h := h1) b
  ⟨a, c, (b.rest (c.extf (h := e1))).truncf⟩

/-- The product of two operands in three parts, 128 wide: the products of the leading parts alone are left. -/
theorem split96 {g0 g1 g2 : FVec Ideal S96x128 .bf16} {s0 s1 s2 : FVec Ideal S128x128 .bf16} {G S : ℕ → ℕ → ℝ} {a b c d e f g}
    (hg : IsR g0 G) (hg1 : IsR g1 fun _ _ => 0) (hg2 : IsR g2 fun _ _ => 0)
    (hs : IsR s0 S) (hs1 : IsR s1 fun _ _ => 0) (hs2 : IsR s2 fun _ _ => 0) :
    IsR (addf
      (extractStridedSlice S96x128 ![0, 0] (matmul dot_S96x256_S256x256_S96x256_1_0_0_1_n_n none
        (concatenate S96x256 1 [⟨S96x128, g0⟩, ⟨S96x128, g1⟩] a)
        (concatenate S256x256 0 [⟨S128x256, concatenate S128x256 1 [⟨S128x128, s0⟩, ⟨S128x128, s1⟩] b⟩,
          ⟨S128x256, concatenate S128x256 1 [⟨S128x128, s0⟩, ⟨S128x128, s1⟩] b⟩] c) (constant S96x256 .f32 0x00000000#32)) d)
      (addf
        (extractStridedSlice S96x128 ![0, 128] (matmul dot_S96x256_S256x256_S96x256_1_0_0_1_n_n none
        (concatenate S96x256 1 [⟨S96x128, g0⟩, ⟨S96x128, g1⟩] a)
        (concatenate S256x256 0 [⟨S128x256, concatenate S128x256 1 [⟨S128x128, s0⟩, ⟨S128x128, s1⟩] b⟩,
          ⟨S128x256, concatenate S128x256 1 [⟨S128x128, s0⟩, ⟨S128x128, s1⟩] b⟩] c) (constant S96x256 .f32 0x00000000#32)) e)
        (matmul dot_S96x256_S256x128_S96x128_1_0_0_1_n_n none
          (concatenate S96x256 1 [⟨S96x128, g0⟩, ⟨S96x128, g2⟩] f)
          (concatenate S256x128 0 [⟨S128x128, s2⟩, ⟨S128x128, s0⟩] g) (constant S96x128 .f32 0x00000000#32))))
      fun j t => ∑ s ∈ range 128, G j s * S s t := by
  have hb := IsR.cat128x256 (h := b) hs hs1
  have hm := IsR.mm96x256x256 (IsR.cat96x256 (h := a) hg hg1) (IsR.cat256x256 (h := c) hb hb)
  refine IsR.congr (hm.slice.addf (hm.slice.addf (IsR.mm96x256x128 (IsR.cat96x256 (h := f) hg hg2) (IsR.cat256x128 (h := g) hs2 hs)))) fun j t _ ht => ?_
  simp only [show (256 : ℕ) = 128 + 128 from rfl, sum_cat, zero_add, cat_lt ht, cat_add, mul_zero, zero_mul, sum_const_zero, add_zero]

/-- The same for the products that sum over the 96 slots. -/
theorem split128 {g0 g1 g2 : FVec Ideal S128x96 .bf16} {s0 s1 s2 : FVec Ideal S96x128 .bf16} {G S : ℕ → ℕ → ℝ} {a b c d e}
    (hg : IsR g0 G) (hg1 : IsR g1 fun _ _ => 0) (hg2 : IsR g2 fun _ _ => 0)
    (hs : IsR s0 S) (hs1 : IsR s1 fun _ _ => 0) (hs2 : IsR s2 fun _ _ => 0) :
    IsR (addf (addf
      (matmul dot_S128x192_S192x128_S128x128_1_0_0_1_n_n none (concatenate S128x192 1 [⟨S128x96, g0⟩, ⟨S128x96, g1⟩] a)
        (concatenate S192x128 0 [⟨S96x128, s0⟩, ⟨S96x128, s0⟩] b) (constant S128x128 .f32 0x00000000#32))
      (matmul dot_S128x192_S192x128_S128x128_1_0_0_1_n_n none (concatenate S128x192 1 [⟨S128x96, g0⟩, ⟨S128x96, g1⟩] a)
        (concatenate S192x128 0 [⟨S96x128, s1⟩, ⟨S96x128, s1⟩] c) (constant S128x128 .f32 0x00000000#32)))
      (matmul dot_S128x192_S192x128_S128x128_1_0_0_1_n_n none (concatenate S128x192 1 [⟨S128x96, g0⟩, ⟨S128x96, g2⟩] d)
        (concatenate S192x128 0 [⟨S96x128, s2⟩, ⟨S96x128, s0⟩] e) (constant S128x128 .f32 0x00000000#32)))
      fun s t => ∑ j ∈ range 96, G s j * S j t := by
  have h1 := IsR.cat128x192 (h := a) hg hg1
  refine IsR.congr (((IsR.mm128x192x128 h1 (IsR.cat192x128 (h := b) hs hs)).addf (IsR.mm128x192x128 h1 (IsR.cat192x128 (h := c) hs1 hs1))).addf
    (IsR.mm128x192x128 (IsR.cat128x192 (h := d) hg hg2) (IsR.cat192x128 (h := e) hs2 hs))) fun s t _ _ => ?_
  simp only [show (192 : ℕ) = 96 + 96 from rfl, sum_cat, mul_zero, zero_mul, sum_const_zero, add_zero]

theorem sle128 : ∀ s t : Fin 128, IntOp.cmpi .sle (BitVec.ofNat 32 s.val) (BitVec.ofNat 32 t.val) = if s.val ≤ t.val then 1#1 else 0#1 := by
  decide +kernel

/-- The causal mask of a block of 128 tokens. -/
theorem mask {φ : FTy} {x y : FVec Ideal S128x128 φ} {X Y : ℕ → ℕ → ℝ} {h0 h1} (hx : IsR x X) (hy : IsR y Y) :
    IsR (φ := φ) (select (cmpi .sle (iota .tc S128x128 32 [0] h0) (iota .tc S128x128 32 [1] h1)) x y)
      fun s t => if s ≤ t then X s t else Y s t := fun s t => by
  pointwise
  rw [hx, hy]
  rw [sle128 s t]
  by_cases h : s.val ≤ t.val <;> simp [h, Scalar.select]

theorem pay70 {v277 : FVec Ideal S96x256 .f32} {v373 v374 v415 : FVec Ideal S96x128 .f32} {E Y0 Y1 T : ℕ → ℕ → ℝ}
    (hE : IsR v277 E) (h0 : IsR v373 Y0) (h1 : IsR v374 T) (h2 : IsR v415 Y1) (F A : ℕ → ℕ → ℝ)
    (e0 : ∀ j t, t < 128 → Y0 j t = zz F A j t * Real.sqrt 160) (e1 : ∀ j t, t < 128 → T j t * Y1 j t = zz F A j (128 + t) * Real.sqrt 160) :
    IsR (k0_pay70 v277 v373 v374 v415) fun j t => pp F A j t * E j t := by
  have hy : IsR (mulf (concatenate S96x256 1 [⟨S96x128, v373⟩, ⟨S96x128, mulf v374 v415⟩] concatenates_S96x128_S96x128_S96x256_d1)
      (broadcast S96x256 (Named.named (F := Ideal) Cert.KernelIdeal.κ "score" (φ := .f32) 0x3DE995B3#32)))
      fun j t => zz F A j t * Real.sqrt 160 * ((Real.sqrt 160)⁻¹ * (Real.log 2)⁻¹) :=
    IsR.congr ((IsR.cat96x256 h0 (h1.mulf h2)).mulf (IsR.const score)) fun j t _ ht => by
      rcases lt_or_ge t 128 with h | h
      · rw [cat_lt h, e0 j t h]
      · obtain ⟨u, rfl⟩ := Nat.exists_eq_add_of_le h
        rw [cat_add, e1 j u (by omega)]
  intro j t
  have hj := j.isLt
  unfold k0_pay70
  generalize mulf (concatenate S96x256 1 [⟨S96x128, v373⟩, ⟨S96x128, mulf v374 v415⟩] concatenates_S96x128_S96x128_S96x256_d1)
      (broadcast S96x256 (Named.named (F := Ideal) Cert.KernelIdeal.κ "score" (φ := .f32) 0x3DE995B3#32)) = y at *
  pointwise
  obtain ⟨M, hM⟩ := fold_max_coe 95 fun i => zz F A i t * Real.sqrt 160 * ((Real.sqrt 160)⁻¹ * (Real.log 2)⁻¹)
  rw [show Ideal.ofBits .f32 4286578688#32 = (⊥ : EReal) by simp [Ideal.ofBits, Ideal.ieee]]
  simp only [hy _ _, hE _ _]
  rw [hM]
  simp only [← EReal.coe_sub, FloatOps.exp2, Ideal.exp2_coe, Real.rpow_eq_pow]
  rw [coe_sum 96 fun i => (2 : ℝ) ^ (zz F A i t * Real.sqrt 160 * ((Real.sqrt 160)⁻¹ * (Real.log 2)⁻¹) - M), Ideal.div_coe, one_mul,
    ← EReal.coe_mul, ← EReal.coe_mul]
  · exact congrArg _ (softmax_eq F A j t M _ (fun _ _ => rfl) hj (E j t))
  · exact (sum_pos (fun i _ => Real.rpow_pos_of_pos (by norm_num) _) ⟨0, by simp⟩).ne'

section Chain
variable {arg2 : Memref sig .tc .vmem S1x8x160x256 .bf16} {arg3 : Memref sig .tc .vmem S1x8x160x256 .bf16} {arg4 : Memref sig .tc .vmem S1x8x160x256 .bf16}
  {arg5 : Memref sig .tc .vmem S1x8x96x256 .bf16} {arg13 : Memref sig .tc .vmem S256x256 .bf16}
  {X2 : BufTy.Contents (Elt Ideal) arg2.view.ty} {X3 : BufTy.Contents (Elt Ideal) arg3.view.ty} {X4 : BufTy.Contents (Elt Ideal) arg4.view.ty}
  {X5 : BufTy.Contents (Elt Ideal) arg5.view.ty} {X13 : BufTy.Contents (Elt Ideal) arg13.view.ty} {k : Fin k0_t1_loop.trips}
  {F KH QH : ℕ → ℕ → ℝ} {V : ℕ → ℕ → EReal}

/-- The overlaps of the keys with the queries. -/
def ov (KH QH : ℕ → ℕ → ℝ) (s t : ℕ) : ℝ := ∑ d ∈ range 160, KH d s * QH d t

/-- The quantised queries and keys, read back. -/
structure Hats (arg2 arg3 : Memref sig .tc .vmem S1x8x160x256 .bf16) (X2 : BufTy.Contents (Elt Ideal) arg2.view.ty)
    (X3 : BufTy.Contents (Elt Ideal) arg3.view.ty) (k : Fin k0_t1_loop.trips) (KH QH : ℕ → ℕ → ℝ) : Prop where
  hK : IsR (sl.v213 (F := Ideal) arg3 X3 k) KH
  hQ : IsR (sl.v106 (F := Ideal) arg2 X2 k) QH

theorem v329 (J : Hats arg2 arg3 X2 X3 k KH QH) : IsR (sl.v329 (F := Ideal) arg2 arg3 X2 X3 k) (ov KH QH) :=
  IsR.mm256x160x256 (IsR.tr J.hK) J.hQ

theorem v335 (J : Hats arg2 arg3 X2 X3 k KH QH) : IsR (sl.v335 (F := Ideal) arg2 arg3 X2 X3 k) fun s t => if s ≤ t then ov KH QH s t else 0 :=
  IsR.congr (mask (v329 J).slice (IsR.const zero32)) fun s t _ _ => by simp only [zero_add]

theorem v336 (J : Hats arg2 arg3 X2 X3 k KH QH) : IsR (sl.v336 (F := Ideal) arg2 arg3 X2 X3 k) fun s t => ov KH QH s (128 + t) :=
  IsR.congr (v329 J).slice fun s t _ _ => by simp only [zero_add]

theorem v339 (J : Hats arg2 arg3 X2 X3 k KH QH) : IsR (sl.v339 (F := Ideal) arg2 arg3 X2 X3 k) fun s t => if s ≤ t then ov KH QH (128 + s) (128 + t) else 0 :=
  IsR.congr (mask (v329 J).slice (IsR.const zero32)) fun s t _ _ => rfl

theorem gParts (H : Gates arg5 arg13 X5 X13 k F) : IsR (sl.v340 (F := Ideal) arg5 arg13 X5 X13 k) (gm F) ∧
    IsR (sl.v343 (F := Ideal) arg5 arg13 X5 X13 k) (fun _ _ => 0) ∧ IsR (sl.v346 (F := Ideal) arg5 arg13 X5 X13 k) (fun _ _ => 0) :=
  split3 (v278 H)

theorem v372 (H : Gates arg5 arg13 X5 X13 k F) (J : Hats arg2 arg3 X2 X3 k KH QH) :
    IsR (sl.v372 (F := Ideal) arg2 arg3 arg5 arg13 X2 X3 X5 X13 k) fun j t => ∑ s ∈ range 128, gm F j s * if s ≤ t then ov KH QH s t else 0 := by
  obtain ⟨g0, g1, g2⟩ := gParts H
  obtain ⟨s0, s1, s2⟩ := split3 (h0 := bitsLt_bf16_f32) (h1 := bitsLt_bf16_f32) (h2 := bitsLt_bf16_f32) (e0 := bitsLt_bf16_f32) (e1 := bitsLt_bf16_f32) (v335 J)
  refine IsR.congr (split96 g0.slice g1.slice g2.slice s0 s1 s2) fun j t _ _ => by simp only [zero_add]

theorem v393 (H : Gates arg5 arg13 X5 X13 k F) (J : Hats arg2 arg3 X2 X3 k KH QH) :
    IsR (sl.v393 (F := Ideal) arg2 arg3 arg5 arg13 X2 X3 X5 X13 k) fun j t =>
      ∑ s ∈ range 128, gm F j (128 + s) * if s ≤ t then ov KH QH (128 + s) (128 + t) else 0 := by
  obtain ⟨g0, g1, g2⟩ := gParts H
  obtain ⟨s0, s1, s2⟩ := split3 (h0 := bitsLt_bf16_f32) (h1 := bitsLt_bf16_f32) (h2 := bitsLt_bf16_f32) (e0 := bitsLt_bf16_f32) (e1 := bitsLt_bf16_f32) (v339 J)
  refine IsR.congr (split96 g0.slice g1.slice g2.slice s0 s1 s2) fun j t _ _ => by simp only [zero_add]

theorem v412 (H : Gates arg5 arg13 X5 X13 k F) (J : Hats arg2 arg3 X2 X3 k KH QH) :
    IsR (sl.v412 (F := Ideal) arg2 arg3 arg5 arg13 X2 X3 X5 X13 k) fun j t => ∑ s ∈ range 128, gm F j s * ov KH QH s (128 + t) := by
  obtain ⟨g0, g1, g2⟩ := gParts H
  obtain ⟨s0, s1, s2⟩ := split3 (h0 := bitsLt_bf16_f32) (h1 := bitsLt_bf16_f32) (h2 := bitsLt_bf16_f32) (e0 := bitsLt_bf16_f32) (e1 := bitsLt_bf16_f32) (v336 J)
  refine IsR.congr (split96 g0.slice g1.slice g2.slice s0 s1 s2) fun j t _ _ => by simp only [zero_add]

theorem v373 (H : Gates arg5 arg13 X5 X13 k F) (J : Hats arg2 arg3 X2 X3 k KH QH) :
    IsR (sl.v373 (F := Ideal) arg2 arg3 arg5 arg13 X2 X3 X5 X13 k) fun j t =>
      Real.exp (cB F j t - cB F j (mid t)) * ∑ s ∈ range 128, gm F j s * if s ≤ t then ov KH QH s t else 0 :=
  IsR.congr (IsR.mulf (v277 H).slice (v372 H J)) fun j t _ _ => by simp only [zero_add]

theorem v374 (H : Gates arg5 arg13 X5 X13 k F) :
    IsR (sl.v374 (F := Ideal) arg5 arg13 X5 X13 k) fun j t => Real.exp (cB F j (128 + t) - cB F j (mid (128 + t))) :=
  IsR.congr (v277 H).slice fun j t _ _ => by simp only [zero_add]

theorem v415 (H : Gates arg5 arg13 X5 X13 k F) (J : Hats arg2 arg3 X2 X3 k KH QH) :
    IsR (sl.v415 (F := Ideal) arg2 arg3 arg5 arg13 X2 X3 X5 X13 k) fun j t =>
      (∑ s ∈ range 128, gm F j (128 + s) * if s ≤ t then ov KH QH (128 + s) (128 + t) else 0)
        + Real.exp (cB F j 191 - cB F j 63) * ∑ s ∈ range 128, gm F j s * ov KH QH s (128 + t) :=
  IsR.addf (v393 H J) (IsR.mulf (v286 H).cols (v412 H J))

/-- The attention weights of the slots, times the decay since the middle of the token's block. -/
theorem weights (H : Gates arg5 arg13 X5 X13 k F) (J : Hats arg2 arg3 X2 X3 k KH QH) :
    IsR (k0_pay70 (sl.v277 (F := Ideal) arg5 arg13 X5 X13 k) (sl.v373 (F := Ideal) arg2 arg3 arg5 arg13 X2 X3 X5 X13 k)
      (sl.v374 (F := Ideal) arg5 arg13 X5 X13 k) (sl.v415 (F := Ideal) arg2 arg3 arg5 arg13 X2 X3 X5 X13 k))
      fun j t => pp F (ov KH QH) j t * Real.exp (cB F j t - cB F j (mid t)) :=
  pay70 (v277 H) (v373 H J) (v374 H) (v415 H J) F (ov KH QH) (fun j t ht => score0_eq F _ j t ht) (fun j t ht => score1_eq F _ j t ht)

/-- The weights of the first block's tokens in the first block. -/
theorem r_11 (H : Gates arg5 arg13 X5 X13 k F) (J : Hats arg2 arg3 X2 X3 k KH QH) :
    IsR (sl.r_11 (F := Ideal) arg2 arg3 arg5 arg13 X2 X3 X5 X13 k) fun s t => pw F (ov KH QH) s t := by
  obtain ⟨g0, g1, g2⟩ := gParts H
  obtain ⟨s0, s1, s2⟩ := split3 (h0 := bitsLt_bf16_f32) (h1 := bitsLt_bf16_f32) (h2 := bitsLt_bf16_f32) (e0 := bitsLt_bf16_f32) (e1 := bitsLt_bf16_f32)
    ((weights H J).slice (p := 0) (q := 0) (s := 96) (t := 128) (h := slices_S96x256_o0_0_S96x128))
  refine IsR.congr (mask (split128 (g0.tr.slice (h := slices_S256x96_o0_0_S128x96)) (g1.tr.slice (h := slices_S256x96_o0_0_S128x96)) (g2.tr.slice (h := slices_S256x96_o0_0_S128x96)) s0 s1 s2) (IsR.const zero32)) fun s t hs ht => ?_
  simp only [zero_add]
  exact weight_eq F _ s t (by rw [mid_lt hs, mid_lt ht]) _ fun _ _ => rfl

theorem r_4 (H : Gates arg5 arg13 X5 X13 k F) (J : Hats arg2 arg3 X2 X3 k KH QH) :
    IsR (sl.r_4 (F := Ideal) arg2 arg3 arg5 arg13 X2 X3 X5 X13 k) fun j t =>
      pp F (ov KH QH) j (128 + t) * Real.exp (cB F j (128 + t) - cB F j (mid (128 + t))) :=
  IsR.congr ((weights H J).slice (h := slices_S96x256_o0_128_S96x128)) fun j t _ _ => by simp only [zero_add]

/-- The weights of the second block's tokens in the second block. -/
theorem v502 (H : Gates arg5 arg13 X5 X13 k F) (J : Hats arg2 arg3 X2 X3 k KH QH) :
    IsR (sl.v502 (F := Ideal) arg2 arg3 arg5 arg13 X2 X3 X5 X13 k) fun s t => pw F (ov KH QH) (128 + s) (128 + t) := by
  obtain ⟨g0, g1, g2⟩ := gParts H
  obtain ⟨s0, s1, s2⟩ := split3 (h0 := bitsLt_bf16_f32) (h1 := bitsLt_bf16_f32) (h2 := bitsLt_bf16_f32) (e0 := bitsLt_bf16_f32) (e1 := bitsLt_bf16_f32) (r_4 H J)
  refine IsR.congr (mask (split128 (g0.tr.slice (h := slices_S256x96_o128_0_S128x96)) (g1.tr.slice (h := slices_S256x96_o128_0_S128x96)) (g2.tr.slice (h := slices_S256x96_o128_0_S128x96)) s0 s1 s2) (IsR.const zero32)) fun s t hs ht => ?_
  simp only [zero_add]
  refine Eq.trans ?_ (weight_eq F _ (128 + s) (128 + t) (by rw [mid_add hs, mid_add ht]) _ fun _ _ => rfl)
  simp only [Nat.add_le_add_iff_left]

/-- The weights of the first block's tokens in the second block. -/
theorem v482 (H : Gates arg5 arg13 X5 X13 k F) (J : Hats arg2 arg3 X2 X3 k KH QH) :
    IsR (sl.v482 (F := Ideal) arg2 arg3 arg5 arg13 X2 X3 X5 X13 k) fun s t => pw F (ov KH QH) s (128 + t) := by
  obtain ⟨g0, g1, g2⟩ := gParts H
  obtain ⟨s0, s1, s2⟩ := split3 (h0 := bitsLt_bf16_f32) (h1 := bitsLt_bf16_f32) (h2 := bitsLt_bf16_f32) (e0 := bitsLt_bf16_f32) (e1 := bitsLt_bf16_f32)
    ((r_4 H J).mulf ((v286 H).cols (n := 128) (h := broadcasts_S96x1_S96x128)))
  refine IsR.congr (split128 (g0.tr.slice (h := slices_S256x96_o0_0_S128x96)) (g1.tr.slice (h := slices_S256x96_o0_0_S128x96)) (g2.tr.slice (h := slices_S256x96_o0_0_S128x96)) s0 s1 s2) fun s t hs ht => ?_
  simp only [zero_add]
  exact weight01_eq F _ s t hs ht _ fun _ _ => rfl

theorem cat128x256 {x y : FVec Ideal S128x128 .f32} {X : ℕ → ℕ → ℝ} {h} (hx : IsR x fun s t => X s t) (hy : IsR y fun s t => X (128 + s) t) :
    IsR (concatenate S256x128 0 [⟨S128x128, x⟩, ⟨S128x128, y⟩] h) X :=
  IsR.congr (IsR.cat256x128 hx hy) fun a b _ _ => by
    rcases lt_or_ge a 128 with h | h
    · rw [cat_lt h]
    · obtain ⟨u, rfl⟩ := Nat.exists_eq_add_of_le h
      rw [cat_add]

/-- The three products with the parts of the weights are one. -/
theorem zero3 (n : ℕ) (V : ℕ → EReal) (w : ℕ → ℝ) :
    (0 + ∑ s ∈ range n, V s * ((w s : ℝ) : EReal)) + ∑ s ∈ range n, V s * ((0 : ℝ) : EReal) + ∑ s ∈ range n, V s * ((0 : ℝ) : EReal)
      = ∑ s ∈ range n, V s * ((w s : ℝ) : EReal) := by
  simp only [EReal.coe_zero, mul_zero, sum_const_zero, add_zero, zero_add]

/-- The output of one head. -/
theorem out (H : Gates arg5 arg13 X5 X13 k F) (J : Hats arg2 arg3 X2 X3 k KH QH) (hV : IsE (sl.r (F := Ideal) arg4 X4 k) V) :
    ∃ w : FVec Ideal S160x256 .bf16, IsE w (fun d t => ∑ s ∈ range 256, V d s * ((pw F (ov KH QH) s t : ℝ) : EReal)) ∧
    k0_pay2 (sl.r (F := Ideal) arg4 X4 k) (sl.v482 (F := Ideal) arg2 arg3 arg5 arg13 X2 X3 X5 X13 k) (sl.v502 (F := Ideal) arg2 arg3 arg5 arg13 X2 X3 X5 X13 k)
      (sl.v509 (F := Ideal) arg2 arg3 arg5 arg13 X2 X3 X5 X13 k) (sl.v516 (F := Ideal) arg2 arg3 arg4 arg5 arg13 X2 X3 X4 X5 X13 k)
      (extractStridedSlice S160x128 ![0, 0] (sl.r (F := Ideal) arg4 X4 k) slices_S160x256_o0_0_S160x128)
      = shapeCast S1x1x160x256 w shapeCasts_S160x256_S1x1x160x256 := by
  obtain ⟨s0, s1, s2⟩ := split3 (h0 := bitsLt_bf16_f32) (h1 := bitsLt_bf16_f32) (h2 := bitsLt_bf16_f32) (e0 := bitsLt_bf16_f32) (e1 := bitsLt_bf16_f32) (r_11 H J)
  obtain ⟨t0, t1, t2⟩ := split3 (h0 := bitsLt_bf16_f32) (h1 := bitsLt_bf16_f32) (h2 := bitsLt_bf16_f32) (e0 := bitsLt_bf16_f32) (e1 := bitsLt_bf16_f32)
    (cat128x256 (X := fun s t => pw F (ov KH QH) s (128 + t)) (h := concatenates_S128x128_S128x128_S256x128_d0) (v482 H J) (v502 H J))
  have z : IsE (broadcast S160x128 (FloatOps.ofBits .f32 0x00000000#32 : Ideal .f32)) fun _ _ => 0 := fun a b => (IsR.const (m := 160) (n := 128) zero32) a b
  have hV0 := hV.slice (p := 0) (q := 0) (s := 160) (t := 128) (h := slices_S160x256_o0_0_S160x128)
  refine ⟨_, ?_, rfl⟩
  refine IsE.congr (IsE.truncf (IsE.cat160x256
    (IsE.addf (IsE.addf (IsE.addf z (IsE.mm160x128x128 hV0 s0)) (IsE.mm160x128x128 hV0 s1)) (IsE.mm160x128x128 hV0 s2))
    (IsE.addf (IsE.addf (IsE.addf z (IsE.mm160x256x128 hV t0)) (IsE.mm160x256x128 hV t1)) (IsE.mm160x256x128 hV t2)))) fun d t _ ht => ?_
  rcases lt_or_ge t 128 with h | h
  · rw [cat_lt h]
    simp only [zero_add]
    rw [show (256 : ℕ) = 128 + 128 from rfl, sum_range_add, sum_eq_zero (s := range 128) (f := fun x => V d (128 + x) * _) fun s _ => by
      rw [pw, if_neg (by omega), EReal.coe_zero, mul_zero]]
    simpa only [zero_add, add_zero] using zero3 128 (V d) fun s => pw F (ov KH QH) s t
  · obtain ⟨u, rfl⟩ := Nat.exists_eq_add_of_le h
    rw [cat_add]
    exact zero3 256 (V d) fun s => pw F (ov KH QH) s (128 + u)

end Chain

end Cert.Proof.Head
end
-- ==== Proof.Quant.lean ====
/- The quantiser of one column: the kernel finds the exponent of the scale bit by bit, and its codes, scale and read-back
   values are those of `floor (log y / log 2) + 1`. -/
module

public import proofs.«01_k».proof.Proof.Head

@[expose] public section

set_option maxRecDepth 2000

noncomputable section

namespace Cert.Proof

open Idealize.ShloMosaic Idealize.ShloMosaic.TcCoe Finset Cert.KernelIdeal Cert.KernelIdeal.Gen

/-- The largest magnitude of a token's 160 numbers. -/
def amax (f : ℕ → ℝ) : ℝ := (univ : Finset (Fin 160)).sup' ⟨0, mem_univ _⟩ fun d => |f d|

/-- The constant by which the kernel and the reference multiply: 1/448 in the wide format. -/
def c448 : ℝ := 9586981 / 2 ^ 32

/-- The scale's exponent. -/
def qe (f : ℕ → ℝ) : ℤ := if amax f = 0 then 0 else ⌊Real.log (amax f * c448) / Real.log 2⌋ + 1

/-- The token is in the quantiser's range. -/
def InRange (f : ℕ → ℝ) : Prop := amax f * c448 = 0 ∨ ((2 : ℝ) ^ (-126 : ℤ) ≤ amax f * c448 ∧ amax f * c448 < (2 : ℝ) ^ (126 : ℤ))

/-- The codes of a token. -/
def qcode (f : ℕ → ℝ) (d : ℕ) : ℝ := min 448 (max (-448) (f d * (2 : ℝ) ^ (-qe f)))

/-- The numbers a token's codes and scale stand for. -/
def qhat (f : ℕ → ℝ) (d : ℕ) : ℝ := qcode f d * (2 : ℝ) ^ qe f

theorem c448_pos : 0 < c448 := by unfold c448; norm_num

theorem amax_nonneg (f : ℕ → ℝ) : 0 ≤ amax f :=
  (abs_nonneg (f (0 : Fin 160))).trans (Finset.le_sup' (fun d : Fin 160 => |f d|) (mem_univ 0))

theorem abs_coe (r : ℝ) : max (r : EReal) (-(r : EReal)) = ((|r| : ℝ) : EReal) := by
  rw [← EReal.coe_neg]; exact (EReal.coe_strictMono.monotone.map_max).symm

theorem fold_amax (f : ℕ → ℝ) : (univ : Finset (Fin 160)).fold max (⊥ : EReal) (fun d : Fin 160 => ((|f d| : ℝ) : EReal)) = ((amax f : ℝ) : EReal) := by
  have h := Finset.sup'_eq_sup (⟨0, mem_univ _⟩ : (univ : Finset (Fin 160)).Nonempty) (fun d : Fin 160 => ((|f d| : ℝ) : EReal))
  have h2 : (univ : Finset (Fin 160)).sup (fun d : Fin 160 => ((|f d| : ℝ) : EReal)) = (univ : Finset (Fin 160)).fold max (⊥ : EReal) (fun d : Fin 160 => ((|f d| : ℝ) : EReal)) := rfl
  rw [← h2, ← h]
  exact (Finset.comp_sup'_eq_sup'_comp ⟨0, mem_univ _⟩ (fun r : ℝ => (r : EReal)) fun x y => EReal.coe_strictMono.monotone.map_max).symm

/-- The exponent field of the token's number. -/
def qn (f : ℕ → ℝ) : ℕ := if amax f = 0 then 0 else (⌊Real.log (amax f * c448) / Real.log 2⌋ + 127).toNat

theorem pow_le_iff {y : ℝ} (hy : 0 < y) (m : ℤ) : (2 : ℝ) ^ m ≤ y ↔ m ≤ ⌊Real.log y / Real.log 2⌋ := by
  rw [Int.le_floor, le_div_iff₀ log2_pos, ← Real.log_zpow]
  exact (Real.log_le_log_iff (zpow_pos (by norm_num) _) hy).symm

theorem y_pos {f : ℕ → ℝ} (h0 : amax f ≠ 0) : 0 < amax f * c448 := mul_pos (lt_of_le_of_ne (amax_nonneg f) h0.symm) c448_pos

theorem qn_spec {f : ℕ → ℝ} (h : InRange f) (h0 : amax f ≠ 0) :
    (qn f : ℤ) = ⌊Real.log (amax f * c448) / Real.log 2⌋ + 127 ∧ 1 ≤ qn f ∧ qn f ≤ 252 := by
  have hy := y_pos h0
  rcases h with h | ⟨h1, h2⟩
  · exact absurd h hy.ne'
  · have a := (pow_le_iff hy _).1 h1
    have b : ¬ (126 : ℤ) ≤ ⌊Real.log (amax f * c448) / Real.log 2⌋ := fun hh => absurd ((pow_le_iff hy _).2 hh) (not_le.2 h2)
    unfold qn
    rw [if_neg h0]
    omega

theorem qn_le {f : ℕ → ℝ} (h : InRange f) : qn f ≤ 252 := by
  by_cases h0 : amax f = 0
  · simp [qn, h0]
  · exact (qn_spec h h0).2.2

theorem qn_zero {f : ℕ → ℝ} (h : InRange f) : qn f = 0 ↔ amax f = 0 := by
  by_cases h0 : amax f = 0
  · simp [qn, h0]
  · have := (qn_spec h h0).2.1
    exact ⟨fun h => by omega, fun h => absurd h h0⟩

theorem qe_eq {f : ℕ → ℝ} (h : InRange f) (h0 : amax f ≠ 0) : qe f = (qn f : ℤ) - 126 := by
  rw [(qn_spec h h0).1, qe, if_neg h0]; ring

theorem ieee_pow (b : BitVec 32) (m : ℕ) (h1 : 1 ≤ m) (h2 : m ≤ 254) (ha : (b.extractLsb' 23 8).toNat = m) (hb : (b.extractLsb' 0 23).toNat = 0)
    (hc : (b.extractLsb' 31 1 == 1#1) = false) : Ideal.ieee 8 23 b = (((2 : ℝ) ^ ((m : ℤ) - 127) : ℝ) : EReal) := by
  unfold Ideal.ieee
  simp only [ha, hb, show 8 + 23 = 31 from rfl, hc]
  rw [if_neg (by omega), if_neg (by omega)]
  congr 1
  rw [show (m : ℤ) - 127 = ((m : ℤ) - 150) + 23 by ring, zpow_add₀ (by norm_num)]
  norm_num
  rw [mul_comm]; congr 2; ring

theorem ieee_top (b : BitVec 32) (ha : (b.extractLsb' 23 8).toNat = 255) (hb : (b.extractLsb' 0 23).toNat = 0)
    (hc : (b.extractLsb' 31 1 == 1#1) = false) : Ideal.ieee 8 23 b = (⊤ : EReal) := by
  unfold Ideal.ieee
  simp [ha, hb, show 8 + 23 = 31 from rfl, hc]

theorem fields : ∀ m : Fin 256, ((BitVec.ofNat 32 m.val <<< 23#32).extractLsb' 23 8).toNat = m.val ∧
    ((BitVec.ofNat 32 m.val <<< 23#32).extractLsb' 0 23).toNat = 0 ∧ ((BitVec.ofNat 32 m.val <<< 23#32).extractLsb' 31 1 == 1#1) = false := by
  decide +kernel

/-- A word whose exponent field alone is set is a power of two. -/
theorem thr {m : ℕ} (h1 : 1 ≤ m) (h2 : m ≤ 254) :
    Ideal.ofBits .f32 (BitVec.ofNat 32 m <<< 23#32) = (((2 : ℝ) ^ ((m : ℤ) - 127) : ℝ) : EReal) :=
  have ⟨a, b, c⟩ := fields ⟨m, by omega⟩
  ieee_pow _ m h1 h2 a b c

theorem thr_top : Ideal.ofBits .f32 (BitVec.ofNat 32 255 <<< 23#32) = (⊤ : EReal) :=
  have ⟨a, b, c⟩ := fields (255 : Fin 256)
  ieee_top (BitVec.ofNat 32 (255 : Fin 256).val <<< 23#32) a b c

/-- The comparison the search makes. -/
theorem thr_le {f : ℕ → ℝ} (h : InRange f) {m : ℕ} (h1 : 1 ≤ m) (h2 : m ≤ 255) :
    Ideal.ofBits .f32 (BitVec.ofNat 32 m <<< 23#32) ≤ ((amax f * c448 : ℝ) : EReal) ↔ m ≤ qn f := by
  have hq := qn_le h
  rcases Nat.lt_or_ge m 255 with hm | hm
  · rw [thr h1 (by omega), EReal.coe_le_coe_iff]
    by_cases h0 : amax f = 0
    · rw [(qn_zero h).2 h0, h0, zero_mul]
      have : (0 : ℝ) < 2 ^ ((m : ℤ) - 127) := by positivity
      exact ⟨fun h => absurd h (not_le.2 this), fun h => by omega⟩
    · rw [pow_le_iff (y_pos h0)]
      have := (qn_spec h h0).1
      omega
  · obtain rfl : m = 255 := by omega
    rw [thr_top]
    exact ⟨fun h => absurd (top_le_iff.1 h) (EReal.coe_ne_top _), fun h => by omega⟩

/-- The bits found so far: the exponent `N` lies in the `st` numbers from the word's on. -/
def Inv (b : IVec S1x256 32) (N : ℕ → ℕ) (st : ℕ) : Prop :=
  ∀ t : Fin 256, ∃ n : ℕ, b (ix2 0 t) = BitVec.ofNat 32 n ∧ n ≤ N t ∧ N t < n + st ∧ n + st ≤ 256

theorem inv0 {f : ℕ → ℕ → ℝ} (hf : ∀ t < 256, InRange (f t)) : Inv (broadcast S1x256 0#32) (fun t => qn (f t)) 256 := fun t =>
  ⟨0, rfl, Nat.zero_le _, lt_of_le_of_lt (qn_le (hf t t.isLt)) (by norm_num), le_refl _⟩

theorem step {f : ℕ → ℕ → ℝ} (hf : ∀ t < 256, InRange (f t)) {y : FVec Ideal S1x256 .f32} {b : IVec S1x256 32} {w : BitVec 32} (st : ℕ)
    (hy : IsR y fun _ t => amax (f t) * c448) (hb : Inv b (fun t => qn (f t)) (2 * st)) (h1 : 1 ≤ st) (hw : w = BitVec.ofNat 32 st) :
    Inv (select (cmpf .oge y (bitcastToFloat .f32 (shli (addi b (broadcast S1x256 w)) (broadcast S1x256 23#32)))) (addi b (broadcast S1x256 w)) b)
      (fun t => qn (f t)) st := fun t => by
  obtain ⟨n, hn, h2, h3, h4⟩ := hb t
  simp only at h2 h3 ⊢
  have key := thr_le (hf t t.isLt) (m := n + st) (by omega) (by omega)
  have e : IntOp.shli .vector (IntOp.addi (BitVec.ofNat 32 n) (BitVec.ofNat 32 st)) 23#32 = BitVec.ofNat 32 (n + st) <<< 23#32 := by
    rw [BitVec.ofNat_add]; rfl
  pointwise
  rw [hn, hy, hw, e]
  by_cases h : n + st ≤ qn (f t)
  · rw [if_pos (key.2 h)]
    exact ⟨n + st, (BitVec.ofNat_add ..).symm, h, by omega, by omega⟩
  · rw [if_neg (mt key.1 h)]
    exact ⟨n, rfl, h2, by omega, by omega⟩

/-- The search's result. -/
theorem inv1 {b : IVec S1x256 32} {N : ℕ → ℕ} (h : Inv b N 1) (t : Fin 256) : b (ix2 0 t) = BitVec.ofNat 32 (N t) := by
  obtain ⟨n, hn, h2, h3, -⟩ := h t
  rw [hn, show n = N t by omega]

theorem isZero : ∀ n : Fin 253, IntOp.ori (IntOp.cmpi .eq (BitVec.ofNat 32 n.val) 0#32) (IntOp.cmpi .eq (BitVec.ofNat 32 n.val) 255#32)
    = if n.val = 0 then 1#1 else 0#1 := by decide +kernel

theorem subWord : ∀ n : Fin 253, IntOp.shli .vector (IntOp.subi 253#32 (BitVec.ofNat 32 n.val)) 23#32 = BitVec.ofNat 32 (253 - n.val) <<< 23#32 := by
  decide +kernel

theorem addWord : ∀ n : Fin 253, IntOp.shli .vector (IntOp.addi (BitVec.ofNat 32 n.val) 1#32) 23#32 = BitVec.ofNat 32 (n.val + 1) <<< 23#32 := by
  decide +kernel

/-- The scales. -/
theorem scales {f : ℕ → ℕ → ℝ} (hf : ∀ t < 256, InRange (f t)) {b : IVec S1x256 32} (hb : Inv b (fun t => qn (f t)) 1) :
    IsR (select (ori (cmpi .eq b (broadcast S1x256 0#32)) (cmpi .eq b (broadcast S1x256 255#32)))
      (broadcast S1x256 (FloatOps.ofBits .f32 0x3F800000#32 : Ideal .f32))
      (bitcastToFloat .f32 (shli (addi b (broadcast S1x256 1#32)) (broadcast S1x256 23#32)))) fun _ t => (2 : ℝ) ^ qe (f t) := fun a t => by
  obtain rfl : a = 0 := Subsingleton.elim _ _
  have hq := qn_le (hf t t.isLt)
  have h0 := isZero ⟨qn (f t), by omega⟩
  have h1 := addWord ⟨qn (f t), by omega⟩
  simp only at h0 h1
  pointwise
  rw [inv1 hb t, h0, h1]
  by_cases h : qn (f t) = 0
  · rw [if_pos h, qe, if_pos ((qn_zero (hf t t.isLt)).1 h)]; simp [Scalar.select]
  · rw [if_neg h, qe_eq (hf t t.isLt) (mt (qn_zero (hf t t.isLt)).2 h), thr (by omega) (by omega)]
    simp only [Scalar.select]
    exact congrArg (fun z : ℤ => (((2 : ℝ) ^ z : ℝ) : EReal)) (by omega : ((qn (f t) + 1 : ℕ) : ℤ) - 127 = (qn (f t) : ℤ) - 126)

/-- The scales' reciprocals. -/
theorem inverses {f : ℕ → ℕ → ℝ} (hf : ∀ t < 256, InRange (f t)) {b : IVec S1x256 32} (hb : Inv b (fun t => qn (f t)) 1) :
    IsR (select (ori (cmpi .eq b (broadcast S1x256 0#32)) (cmpi .eq b (broadcast S1x256 255#32)))
      (broadcast S1x256 (FloatOps.ofBits .f32 0x3F800000#32 : Ideal .f32))
      (bitcastToFloat .f32 (shli (subi (broadcast S1x256 253#32) b) (broadcast S1x256 23#32)))) fun _ t => (2 : ℝ) ^ (-qe (f t)) := fun a t => by
  obtain rfl : a = 0 := Subsingleton.elim _ _
  have hq := qn_le (hf t t.isLt)
  have h0 := isZero ⟨qn (f t), by omega⟩
  have h1 := subWord ⟨qn (f t), by omega⟩
  simp only at h0 h1
  pointwise
  rw [inv1 hb t, h0, h1]
  by_cases h : qn (f t) = 0
  · rw [if_pos h, qe, if_pos ((qn_zero (hf t t.isLt)).1 h)]; simp [Scalar.select]
  · rw [if_neg h, qe_eq (hf t t.isLt) (mt (qn_zero (hf t t.isLt)).2 h), thr (by omega) (by omega)]
    simp only [Scalar.select]
    exact congrArg (fun z : ℤ => (((2 : ℝ) ^ z : ℝ) : EReal)) (by omega : ((253 - qn (f t) : ℕ) : ℤ) - 127 = -((qn (f t) : ℤ) - 126))

theorem c448_32 : (FloatOps.ofBits .f32 0x3B124925#32 : Ideal .f32) = ((c448 : ℝ) : EReal) := by
  unfold c448; simp [Ideal.ofBits_def, Ideal.ofBits, Ideal.ieee, -EReal.coe_mul]; norm_num
theorem neg448 : (FloatOps.ofBits .f32 0xC3E00000#32 : Ideal .f32) = ((-448 : ℝ) : EReal) := by
  simp [Ideal.ofBits_def, Ideal.ofBits, Ideal.ieee, -EReal.coe_mul]; norm_num
theorem pos448 : (FloatOps.ofBits .f32 0x43E00000#32 : Ideal .f32) = ((448 : ℝ) : EReal) := by
  simp [Ideal.ofBits_def, Ideal.ofBits, Ideal.ieee, -EReal.coe_mul]; norm_num

/-- Each token's largest magnitude, times the constant. -/
theorem magnitudes {x : FVec Ideal S160x256 .bf16} {X : ℕ → ℕ → ℝ} (hx : IsR x fun d t => X t d) :
    IsR (mulf (extf .f32 (shapeCast S1x256 (multiReduction .maximumf [0] S256 (absf x) 0xFF80#16 reduces_S160x256_S256 (.inr rfl) rfl)
      shapeCasts_S256_S1x256) bitsLt_bf16_f32) (broadcast S1x256 (FloatOps.ofBits .f32 0x3B124925#32 : Ideal .f32)))
      fun _ t => amax (X t) * c448 := fun a t => by
  obtain rfl : a = 0 := Subsingleton.elim _ _
  pointwise
  simp only [hx _ _]
  rw [show Ideal.ofBits .bf16 65408#16 = (⊥ : EReal) by simp [Ideal.ofBits, Ideal.ieee]]
  simp only [Ideal.absf_def, abs_coe]
  rw [fold_amax]
  exact (congrArg _ c448_32).trans (EReal.coe_mul _ _).symm

namespace Head
open Cert.KernelIdeal.Gen.trip_k0_t1

section Chain
variable {arg2 arg3 : Memref sig .tc .vmem S1x8x160x256 .bf16}
  {X2 : BufTy.Contents (Elt Ideal) arg2.view.ty} {X3 : BufTy.Contents (Elt Ideal) arg3.view.ty} {k : Fin k0_t1_loop.trips}
  {Q K : ℕ → ℕ → ℝ}

/-- The queries' exponents. -/
theorem v73 (hx : IsR (sl.v10 (F := Ideal) arg2 X2 k) fun d t => Q t d) (hf : ∀ t < 256, InRange (Q t)) :
    Inv (sl.v73 (F := Ideal) arg2 X2 k) (fun t => qn (Q t)) 1 := by
  have hy : IsR (sl.v16 (F := Ideal) arg2 X2 k) _ := magnitudes hx
  exact step hf 1 hy (step hf 2 hy (step hf 4 hy (step hf 8 hy (step hf 16 hy (step hf 32 hy (step hf 64 hy (step hf 128 hy
    (inv0 hf) (by norm_num) rfl) (by norm_num) rfl) (by norm_num) rfl) (by norm_num) rfl) (by norm_num) rfl) (by norm_num) rfl) (by norm_num) rfl)
    (by norm_num) rfl

theorem v85 (hx : IsR (sl.v10 (F := Ideal) arg2 X2 k) fun d t => Q t d) (hf : ∀ t < 256, InRange (Q t)) :
    IsR (sl.v85 (F := Ideal) arg2 X2 k) fun _ t => (2 : ℝ) ^ qe (Q t) := scales hf (v73 hx hf)

theorem v102 (hx : IsR (sl.v10 (F := Ideal) arg2 X2 k) fun d t => Q t d) (hf : ∀ t < 256, InRange (Q t)) :
    IsR (sl.v102 (F := Ideal) arg2 X2 k) fun d t => qcode (Q t) d :=
  IsR.truncf (IsR.minimumf (IsR.const pos448) (IsR.maximumf (IsR.const neg448) (IsR.mulf hx (IsR.rows (IsR.truncf (inverses hf (v73 hx hf)))))))

theorem v106 (hx : IsR (sl.v10 (F := Ideal) arg2 X2 k) fun d t => Q t d) (hf : ∀ t < 256, InRange (Q t)) :
    IsR (sl.v106 (F := Ideal) arg2 X2 k) fun d t => qhat (Q t) d :=
  IsR.mulf (IsR.extf (v102 hx hf)) (IsR.rows (IsR.truncf (v85 hx hf)))

/-- The keys' exponents. -/
theorem v180 (hx : IsR (sl.v117 (F := Ideal) arg3 X3 k) fun d t => K t d) (hf : ∀ t < 256, InRange (K t)) :
    Inv (sl.v180 (F := Ideal) arg3 X3 k) (fun t => qn (K t)) 1 := by
  have hy : IsR (sl.v123 (F := Ideal) arg3 X3 k) _ := magnitudes hx
  exact step hf 1 hy (step hf 2 hy (step hf 4 hy (step hf 8 hy (step hf 16 hy (step hf 32 hy (step hf 64 hy (step hf 128 hy
    (inv0 hf) (by norm_num) rfl) (by norm_num) rfl) (by norm_num) rfl) (by norm_num) rfl) (by norm_num) rfl) (by norm_num) rfl) (by norm_num) rfl)
    (by norm_num) rfl

theorem v192 (hx : IsR (sl.v117 (F := Ideal) arg3 X3 k) fun d t => K t d) (hf : ∀ t < 256, InRange (K t)) :
    IsR (sl.v192 (F := Ideal) arg3 X3 k) fun _ t => (2 : ℝ) ^ qe (K t) := scales hf (v180 hx hf)

theorem v209 (hx : IsR (sl.v117 (F := Ideal) arg3 X3 k) fun d t => K t d) (hf : ∀ t < 256, InRange (K t)) :
    IsR (sl.v209 (F := Ideal) arg3 X3 k) fun d t => qcode (K t) d :=
  IsR.truncf (IsR.minimumf (IsR.const pos448) (IsR.maximumf (IsR.const neg448) (IsR.mulf hx (IsR.rows (IsR.truncf (inverses hf (v180 hx hf)))))))

theorem v213 (hx : IsR (sl.v117 (F := Ideal) arg3 X3 k) fun d t => K t d) (hf : ∀ t < 256, InRange (K t)) :
    IsR (sl.v213 (F := Ideal) arg3 X3 k) fun d t => qhat (K t) d :=
  IsR.mulf (IsR.extf (v209 hx hf)) (IsR.rows (IsR.truncf (v192 hx hf)))

end Chain
end Head

end Cert.Proof
end
-- ==== Proof.Trip.lean ====
/- What one grid point writes: the blocks of the seven results as functions of the blocks of the four arguments. -/
module

public import proofs.«01_k».proof.Proof.Scores
public import proofs.«01_k».proof.Proof.Quant
public import Idealize.ShloMosaic.Lib.WholeRead

@[expose] public section

set_option maxRecDepth 16384

noncomputable section

namespace Cert.Proof

open Idealize.ShloMosaic Idealize.ShloMosaic.TcCoe Finset Cert.KernelIdeal Cert.KernelIdeal.Gen Cert.KernelIdeal.Gen.trip_k0_t1

/-- The four argument blocks of a grid point, head by head: queries, keys, values and forget logits. -/
structure Tokens (x0 x1 x2 : Vec Ideal S1x8x160x256 .bf16) (x3 : Vec Ideal S1x8x96x256 .bf16)
    (Q K : ℕ → ℕ → ℕ → ℝ) (V : ℕ → ℕ → ℕ → EReal) (F : ℕ → ℕ → ℕ → ℝ) : Prop where
  hq : ∀ (k : Fin 8) (d : Fin 160) (t : Fin 256), x0 (ix4 0 k d t) = ((Q k t d : ℝ) : EReal)
  hk : ∀ (k : Fin 8) (d : Fin 160) (t : Fin 256), x1 (ix4 0 k d t) = ((K k t d : ℝ) : EReal)
  hv : ∀ (k : Fin 8) (d : Fin 160) (t : Fin 256), x2 (ix4 0 k d t) = V k d t
  hf : ∀ (k : Fin 8) (j : Fin 96) (t : Fin 256), x3 (ix4 0 k j t) = ((F k j t : ℝ) : EReal)
  rq : ∀ k < 8, ∀ t < 256, InRange (Q k t)
  rk : ∀ k < 8, ∀ t < 256, InRange (K k t)

/-- The output at one position. -/
def oAt (Q K : ℕ → ℕ → ℝ) (V : ℕ → ℕ → EReal) (F : ℕ → ℕ → ℝ) (d t : ℕ) : EReal :=
  ∑ s ∈ range 256, V d s * ((pw F (Head.ov (fun d t => qhat (K t) d) (fun d t => qhat (Q t) d)) s t : ℝ) : EReal)

/-- The final key state at one position. -/
def ksAt (K F : ℕ → ℕ → ℝ) (d j : ℕ) : EReal := ((∑ s ∈ range 256, wl F j s * qhat (K s) d : ℝ) : EReal)

/-- The final value state at one position. -/
def vsAt (V : ℕ → ℕ → EReal) (F : ℕ → ℕ → ℝ) (d j : ℕ) : EReal := ∑ s ∈ range 256, ((wl F j s : ℝ) : EReal) * V d s

section Spec
variable (Q K : ℕ → ℕ → ℕ → ℝ) (V : ℕ → ℕ → ℕ → EReal) (F : ℕ → ℕ → ℕ → ℝ)

/-- The seven result blocks of a grid point. -/
def oB : S1x8x160x256.Idx → Elt Ideal .bf16 := fun y => oAt (Q (y 1).val) (K (y 1).val) (V (y 1).val) (F (y 1).val) (y 2).val (y 3).val
def ksB : S1x8x160x96.Idx → Elt Ideal .f32 := fun y => ksAt (K (y 1).val) (F (y 1).val) (y 2).val (y 3).val
def vsB : S1x8x160x96.Idx → Elt Ideal .f32 := fun y => vsAt (V (y 1).val) (F (y 1).val) (y 2).val (y 3).val
def codeB : S1x8x160x256.Idx → Elt Ideal .fp8e4m3 := fun y => ((qcode (Q (y 1).val (y 3).val) (y 2).val : ℝ) : EReal)
def scaleB : S1x8x256.Idx → Elt Ideal .f32 := fun y => (((2 : ℝ) ^ qe (Q (y 1).val (y 2).val) : ℝ) : EReal)
end Spec

/-- A position of a store of one head's block in the whole block. -/
theorem emb4 {a b c e : ℕ} {off : Fin 4 → ℕ} {k : ℕ} (ho : off = ![0, k, 0, 0])
    (inb : ∀ x, off x + (⟨4, ![1, 1, c, e]⟩ : Shape).size x ≤ (⟨4, ![a, b, c, e]⟩ : Shape).size x) (x : (⟨4, ![1, 1, c, e]⟩ : Shape).Idx) :
    ((Rect.unit (s := (⟨4, ![a, b, c, e]⟩ : Shape)) off (⟨4, ![1, 1, c, e]⟩ : Shape).size inb).emb x 1).val = k ∧
    ((Rect.unit (s := (⟨4, ![a, b, c, e]⟩ : Shape)) off (⟨4, ![1, 1, c, e]⟩ : Shape).size inb).emb x 2).val = (x 2).val ∧
    ((Rect.unit (s := (⟨4, ![a, b, c, e]⟩ : Shape)) off (⟨4, ![1, 1, c, e]⟩ : Shape).size inb).emb x 3).val = (x 3).val := by
  subst ho
  have h1 : (x 1).val < 1 := (x 1).isLt
  refine ⟨?_, ?_, ?_⟩
  · rw [Rect.emb_apply]; show k + 1 * (x 1).val = _; omega
  · rw [Rect.emb_apply]; show 0 + 1 * (x 2).val = _; omega
  · rw [Rect.emb_apply]; show 0 + 1 * (x 3).val = _; omega

theorem emb3 {a b c : ℕ} {off : Fin 3 → ℕ} {k : ℕ} (ho : off = ![0, k, 0])
    (inb : ∀ x, off x + (⟨3, ![1, 1, c]⟩ : Shape).size x ≤ (⟨3, ![a, b, c]⟩ : Shape).size x) (x : (⟨3, ![1, 1, c]⟩ : Shape).Idx) :
    ((Rect.unit (s := (⟨3, ![a, b, c]⟩ : Shape)) off (⟨3, ![1, 1, c]⟩ : Shape).size inb).emb x 1).val = k ∧
    ((Rect.unit (s := (⟨3, ![a, b, c]⟩ : Shape)) off (⟨3, ![1, 1, c]⟩ : Shape).size inb).emb x 2).val = (x 2).val := by
  subst ho
  have h1 : (x 1).val < 1 := (x 1).isLt
  refine ⟨?_, ?_⟩
  · rw [Rect.emb_apply]; show k + 1 * (x 1).val = _; omega
  · rw [Rect.emb_apply]; show 0 + 1 * (x 2).val = _; omega

/-- One head's block, stored with two unit axes. -/
theorem cast256 {φ : FTy} (w : FVec Ideal S160x256 φ) (x : S1x1x160x256.Idx) :
    shapeCast S1x1x160x256 w shapeCasts_S160x256_S1x1x160x256 x = w (ix2 (x 2) (x 3)) := by pointwise
theorem cast96 {φ : FTy} (w : FVec Ideal S160x96 φ) (x : S1x1x160x96.Idx) :
    shapeCast S1x1x160x96 w shapeCasts_S160x96_S1x1x160x96 x = w (ix2 (x 2) (x 3)) := by pointwise
theorem cast1 {φ : FTy} (w : FVec Ideal S1x256 φ) (x : S1x1x256.Idx) :
    shapeCast S1x1x256 w shapeCasts_S1x256_S1x1x256 x = w (ix2 0 (x 2)) := by pointwise

/-- One head's block, loaded without its unit axes. -/
theorem uncast256 {φ : FTy} (w : FVec Ideal S1x1x160x256 φ) (d : Fin 160) (t : Fin 256) :
    shapeCast S160x256 w shapeCasts_S1x1x160x256_S160x256 (ix2 d t) = w (ix4 0 0 d t) := by pointwise
theorem uncast96 {φ : FTy} (w : FVec Ideal S1x1x96x256 φ) (d : Fin 96) (t : Fin 256) :
    shapeCast S96x256 w shapeCasts_S1x1x96x256_S96x256 (ix2 d t) = w (ix4 0 0 d t) := by pointwise

/-- A load of one head's block. -/
theorem load4 {b c e : ℕ} {φ : EltTy} {m : Memref sig .tc .vmem (⟨4, ![1, b, c, e]⟩ : Shape) φ} (hm : m.IsWhole)
    (X : Vec Ideal (⟨4, ![1, b, c, e]⟩ : Shape) φ) {off : Fin 4 → ℕ} (k : Fin b) (ho : off = ![0, k.val, 0, 0])
    (inb : ∀ x, off x + (⟨4, ![1, 1, c, e]⟩ : Shape).size x ≤ (⟨4, ![1, b, c, e]⟩ : Shape).size x) (d : Fin c) (t : Fin e) :
    View.readAt (Elt Ideal) m.view (Rect.unit (s := (⟨4, ![1, b, c, e]⟩ : Shape)) off (⟨4, ![1, 1, c, e]⟩ : Shape).size inb).toLoadRect (hm.unread X)
      (ix4 0 0 d t) = X (ix4 0 k d t) := by
  subst ho
  refine (hm.readAt_unread X _ _).trans (congrArg X (funext fun a => Fin.ext ?_))
  match a with
  | ⟨0, _⟩ => show 0 + 1 * 0 = 0; omega
  | ⟨1, _⟩ => show k.val + 1 * 0 = k.val; omega
  | ⟨2, _⟩ => show 0 + 1 * d.val = d.val; omega
  | ⟨3, _⟩ => show 0 + 1 * t.val = t.val; omega

section Point
variable {𝒱 : Variants} {c : Dev nD} {bd : Option 𝒱.V} {i : grid0.Coords} {arg2 : Memref sig .tc .vmem S1x8x160x256 .bf16} {harg2 : arg2.IsWhole} {arg3 :
  Memref sig .tc .vmem S1x8x160x256 .bf16} {harg3 : arg3.IsWhole} {arg4 : Memref sig .tc .vmem S1x8x160x256 .bf16} {harg4 : arg4.IsWhole} {arg5 : Memref
  sig .tc .vmem S1x8x96x256 .bf16} {harg5 : arg5.IsWhole} {arg6 : Memref sig .tc .vmem S1x8x160x256 .bf16} {harg6 : arg6.IsWhole} {arg7 : Memref sig .tc
  .vmem S1x8x160x96 .f32} {harg7 : arg7.IsWhole} {arg8 : Memref sig .tc .vmem S1x8x160x96 .f32} {harg8 : arg8.IsWhole} {arg9 : Memref sig .tc .vmem
  S1x8x160x256 .fp8e4m3} {harg9 : arg9.IsWhole} {arg10 : Memref sig .tc .vmem S1x8x256 .f32} {harg10 : arg10.IsWhole} {arg11 : Memref sig .tc .vmem
  S1x8x160x256 .fp8e4m3} {harg11 : arg11.IsWhole} {arg12 : Memref sig .tc .vmem S1x8x256 .f32} {harg12 : arg12.IsWhole} {arg13 : Memref sig .tc .vmem
  S256x256 .bf16} {harg13 : arg13.IsWhole} {X2 : BufTy.Contents (Elt Ideal) arg2.view.ty} {X3 : BufTy.Contents (Elt Ideal) arg3.view.ty} {X4 :
  BufTy.Contents (Elt Ideal) arg4.view.ty} {X5 : BufTy.Contents (Elt Ideal) arg5.view.ty} {X13 : BufTy.Contents (Elt Ideal) arg13.view.ty}

/-- What holds of every trip's pieces holds of the pieces of all the trips before any. -/
theorem pb_forall (P1 : View.Piece (Elt Ideal) S1x8x160x256 .bf16 → Prop) (P2 P3 : View.Piece (Elt Ideal) S1x8x160x96 .f32 → Prop)
    (P4 : View.Piece (Elt Ideal) S1x8x160x256 .fp8e4m3 → Prop) (P5 : View.Piece (Elt Ideal) S1x8x256 .f32 → Prop)
    (P6 : View.Piece (Elt Ideal) S1x8x160x256 .fp8e4m3 → Prop) (P7 : View.Piece (Elt Ideal) S1x8x256 .f32 → Prop)
    (h : ∀ k, (∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 X2 X3 X4 X5 X13 k).1, P1 p) ∧ (∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 X2 X3 X4 X5 X13 k).2.1, P2 p) ∧
      (∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 X2 X3 X4 X5 X13 k).2.2.1, P3 p) ∧ (∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 X2 X3 X4 X5 X13 k).2.2.2.1, P4 p) ∧
      (∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 X2 X3 X4 X5 X13 k).2.2.2.2.1, P5 p) ∧ (∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 X2 X3 X4 X5 X13 k).2.2.2.2.2.1, P6 p) ∧
      (∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 X2 X3 X4 X5 X13 k).2.2.2.2.2.2, P7 p)) :
    ∀ n ≤ k0_t1_loop.trips, (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 X2 X3 X4 X5 X13 n).1, P1 p) ∧ (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 X2 X3 X4 X5 X13 n).2.1, P2 p) ∧
      (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 X2 X3 X4 X5 X13 n).2.2.1, P3 p) ∧ (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 X2 X3 X4 X5 X13 n).2.2.2.1, P4 p) ∧
      (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 X2 X3 X4 X5 X13 n).2.2.2.2.1, P5 p) ∧ (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 X2 X3 X4 X5 X13 n).2.2.2.2.2.1, P6 p) ∧
      (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 X2 X3 X4 X5 X13 n).2.2.2.2.2.2, P7 p)
  | 0, _ => by
    rw [pb_k0_t1.eq_1]
    simp
  | n + 1, hn => by
    obtain ⟨a1, a2, a3, a4, a5, a6, a7⟩ := pb_forall P1 P2 P3 P4 P5 P6 P7 h n (Nat.le_of_succ_le hn)
    obtain ⟨b1, b2, b3, b4, b5, b6, b7⟩ := h ⟨n, hn⟩
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 X2 X3 X4 X5 X13 ⟨n, hn⟩]
    exact ⟨List.forall_mem_append.2 ⟨b1, a1⟩, List.forall_mem_append.2 ⟨b2, a2⟩, List.forall_mem_append.2 ⟨b3, a3⟩, List.forall_mem_append.2 ⟨b4, a4⟩,
      List.forall_mem_append.2 ⟨b5, a5⟩, List.forall_mem_append.2 ⟨b6, a6⟩, List.forall_mem_append.2 ⟨b7, a7⟩⟩

theorem trip_pieces (P1 : View.Piece (Elt Ideal) S1x8x160x256 .bf16 → Prop) (P2 P3 : View.Piece (Elt Ideal) S1x8x160x96 .f32 → Prop)
    (P4 : View.Piece (Elt Ideal) S1x8x160x256 .fp8e4m3 → Prop) (P5 : View.Piece (Elt Ideal) S1x8x256 .f32 → Prop)
    (P6 : View.Piece (Elt Ideal) S1x8x160x256 .fp8e4m3 → Prop) (P7 : View.Piece (Elt Ideal) S1x8x256 .f32 → Prop) (k : Fin k0_t1_loop.trips)
    (h1 : P1 ⟨Rect.unit (s := S1x8x160x256) (k0_off1 k) S1x1x160x256.size (k0_off1_inb k),
      k0_pay2 (sl.r (F := Ideal) arg4 X4 k) (sl.v482 (F := Ideal) arg2 arg3 arg5 arg13 X2 X3 X5 X13 k) (sl.v502 (F := Ideal) arg2 arg3 arg5 arg13 X2 X3 X5 X13 k)
      (sl.v509 (F := Ideal) arg2 arg3 arg5 arg13 X2 X3 X5 X13 k) (sl.v516 (F := Ideal) arg2 arg3 arg4 arg5 arg13 X2 X3 X4 X5 X13 k)
      (extractStridedSlice S160x128 ![0, 0] (sl.r (F := Ideal) arg4 X4 k) slices_S160x256_o0_0_S160x128)⟩)
    (h2 : P2 ⟨Rect.unit (s := S1x8x160x96) (k0_off4 k) S1x1x160x96.size (k0_off4_inb k), sl.v322 (F := Ideal) arg3 arg5 arg13 X3 X5 X13 k⟩)
    (h3 : P3 ⟨Rect.unit (s := S1x8x160x96) (k0_off4 k) S1x1x160x96.size (k0_off4_inb k), sl.v327 (F := Ideal) arg4 arg5 arg13 X4 X5 X13 k⟩)
    (h4 : P4 ⟨Rect.unit (s := S1x8x160x256) (k0_off1 k) S1x1x160x256.size (k0_off1_inb k), sl.v110 (F := Ideal) arg2 X2 k⟩)
    (h5 : P5 ⟨Rect.unit (s := S1x8x256) (k0_off2 k) S1x1x256.size (k0_off2_inb k), sl.v114 (F := Ideal) arg2 X2 k⟩)
    (h6 : P6 ⟨Rect.unit (s := S1x8x160x256) (k0_off1 k) S1x1x160x256.size (k0_off1_inb k), sl.v217 (F := Ideal) arg3 X3 k⟩)
    (h7 : P7 ⟨Rect.unit (s := S1x8x256) (k0_off2 k) S1x1x256.size (k0_off2_inb k), sl.v221 (F := Ideal) arg3 X3 k⟩) :
    (∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 X2 X3 X4 X5 X13 k).1, P1 p) ∧ (∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 X2 X3 X4 X5 X13 k).2.1, P2 p) ∧
      (∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 X2 X3 X4 X5 X13 k).2.2.1, P3 p) ∧ (∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 X2 X3 X4 X5 X13 k).2.2.2.1, P4 p) ∧
      (∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 X2 X3 X4 X5 X13 k).2.2.2.2.1, P5 p) ∧ (∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 X2 X3 X4 X5 X13 k).2.2.2.2.2.1, P6 p) ∧
      (∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 X2 X3 X4 X5 X13 k).2.2.2.2.2.2, P7 p) := by
  delta tripL_k0_t1 trip_k0_t1
  simp only [List.mem_singleton, forall_eq]
  exact ⟨h1, h2, h3, h4, h5, h6, h7⟩

end Point

section Run
variable {𝒱 : Variants} {c : Dev nD} {bd : Option 𝒱.V} {i : grid0.Coords} {arg2 : Memref sig .tc .vmem S1x8x160x256 .bf16} {harg2 : arg2.IsWhole} {arg3 :
  Memref sig .tc .vmem S1x8x160x256 .bf16} {harg3 : arg3.IsWhole} {arg4 : Memref sig .tc .vmem S1x8x160x256 .bf16} {harg4 : arg4.IsWhole} {arg5 : Memref
  sig .tc .vmem S1x8x96x256 .bf16} {harg5 : arg5.IsWhole} {arg6 : Memref sig .tc .vmem S1x8x160x256 .bf16} {harg6 : arg6.IsWhole} {arg7 : Memref sig .tc
  .vmem S1x8x160x96 .f32} {harg7 : arg7.IsWhole} {arg8 : Memref sig .tc .vmem S1x8x160x96 .f32} {harg8 : arg8.IsWhole} {arg9 : Memref sig .tc .vmem
  S1x8x160x256 .fp8e4m3} {harg9 : arg9.IsWhole} {arg10 : Memref sig .tc .vmem S1x8x256 .f32} {harg10 : arg10.IsWhole} {arg11 : Memref sig .tc .vmem
  S1x8x160x256 .fp8e4m3} {harg11 : arg11.IsWhole} {arg12 : Memref sig .tc .vmem S1x8x256 .f32} {harg12 : arg12.IsWhole} {arg13 : Memref sig .tc .vmem
  S256x256 .bf16} {harg13 : arg13.IsWhole}
  {x0 x1 x2 : Vec Ideal S1x8x160x256 .bf16} {x3 : Vec Ideal S1x8x96x256 .bf16} {X13 : BufTy.Contents (Elt Ideal) arg13.view.ty}
  {Q K : ℕ → ℕ → ℕ → ℝ} {V : ℕ → ℕ → ℕ → EReal} {F : ℕ → ℕ → ℕ → ℝ}

theorem loadQ (T : Tokens x0 x1 x2 x3 Q K V F) (k : Fin k0_t1_loop.trips) : IsR (sl.v10 (F := Ideal) arg2 (harg2.unread x0) k) fun d t => Q k.val t d := by
  intro d t
  exact (uncast256 (φ := .bf16) _ d t).trans ((load4 harg2 x0 k (k0_off1_eq k) (k0_off1_inb k) d t).trans (T.hq k d t))
theorem loadK (T : Tokens x0 x1 x2 x3 Q K V F) (k : Fin k0_t1_loop.trips) : IsR (sl.v117 (F := Ideal) arg3 (harg3.unread x1) k) fun d t => K k.val t d := by
  intro d t
  exact (uncast256 (φ := .bf16) _ d t).trans ((load4 harg3 x1 k (k0_off1_eq k) (k0_off1_inb k) d t).trans (T.hk k d t))
theorem loadV (T : Tokens x0 x1 x2 x3 Q K V F) (k : Fin k0_t1_loop.trips) : IsE (φ := .bf16) (sl.r (F := Ideal) arg4 (harg4.unread x2) k) (V k.val) := by
  intro d t
  exact (uncast256 (φ := .bf16) _ d t).trans ((load4 harg4 x2 k (k0_off1_eq k) (k0_off1_inb k) d t).trans (T.hv k d t))
theorem loadF (T : Tokens x0 x1 x2 x3 Q K V F) (k : Fin k0_t1_loop.trips) (hD : IsR (φ := .bf16) (sl.r_3 (F := Ideal) arg13 X13) dec) :
    Head.Gates arg5 arg13 (harg5.unread x3) X13 k (F k.val) := by
  have h : IsR (φ := .bf16) (shapeCast S96x256 (View.readAt (Elt Ideal) arg5.view (Rect.unit (s := S1x8x96x256) (k0_off3 k) S1x1x96x256.size (k0_off3_inb k)).toLoadRect
      (harg5.unread x3)) shapeCasts_S1x1x96x256_S96x256) (F k.val) := by
    intro d t
    exact (uncast96 (φ := .bf16) _ d t).trans ((load4 harg5 x3 k (k0_off3_eq k) (k0_off3_inb k) d t).trans (T.hf k d t))
  exact ⟨Head.pay31 _ _ h, Head.pay32 _ _ h, hD⟩

theorem trip_values (T : Tokens x0 x1 x2 x3 Q K V F) (hD : IsR (φ := .bf16) (sl.r_3 (F := Ideal) arg13 X13) dec) (n : ℕ) (hn : n ≤ k0_t1_loop.trips) :
    (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) X13 n).1, ∀ x, p.2 x = oB Q K V F (p.1.emb x)) ∧
    (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) X13 n).2.1, ∀ x, p.2 x = ksB K F (p.1.emb x)) ∧
    (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) X13 n).2.2.1, ∀ x, p.2 x = vsB V F (p.1.emb x)) ∧
    (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) X13 n).2.2.2.1, ∀ x, p.2 x = codeB Q (p.1.emb x)) ∧
    (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) X13 n).2.2.2.2.1, ∀ x, p.2 x = scaleB Q (p.1.emb x)) ∧
    (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) X13 n).2.2.2.2.2.1, ∀ x, p.2 x = codeB K (p.1.emb x)) ∧
    (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) X13 n).2.2.2.2.2.2, ∀ x, p.2 x = scaleB K (p.1.emb x)) := by
  refine pb_forall _ _ _ _ _ _ _ (fun k => ?_) n hn
  have hk : k.val < 8 := k.isLt
  have q := loadQ (harg2 := harg2) T k
  have kk := loadK (harg3 := harg3) T k
  have v := loadV (harg4 := harg4) T k
  have g := loadF (harg5 := harg5) T k hD
  obtain ⟨w, hw, e⟩ := Head.out (arg2 := arg2) (arg3 := arg3) g ⟨Head.v213 kk (T.rk k hk), Head.v106 q (T.rq k hk)⟩ v
  refine trip_pieces _ _ _ _ _ _ _ k (fun x => ?_) (fun x => ?_) (fun x => ?_) (fun x => ?_) (fun x => ?_) (fun x => ?_) (fun x => ?_)
  · obtain ⟨a, b, c⟩ := emb4 (k0_off1_eq k) (k0_off1_inb k) x
    refine (congrFun e x).trans ((cast256 w x).trans ((hw (x 2) (x 3)).trans ?_))
    unfold oB; rw [a, b, c]; rfl
  · obtain ⟨a, b, c⟩ := emb4 (k0_off4_eq k) (k0_off4_inb k) x
    refine (cast96 _ x).trans ((Head.v318 g (Head.v213 kk (T.rk k hk)) (x 2) (x 3)).trans ?_)
    unfold ksB; rw [a, b, c]; rfl
  · obtain ⟨a, b, c⟩ := emb4 (k0_off4_eq k) (k0_off4_inb k) x
    refine (cast96 _ x).trans ((Head.v323 g v (x 2) (x 3)).trans ?_)
    unfold vsB; rw [a, b, c]; rfl
  · obtain ⟨a, b, c⟩ := emb4 (k0_off1_eq k) (k0_off1_inb k) x
    refine (cast256 _ x).trans ((Head.v102 q (T.rq k hk) (x 2) (x 3)).trans ?_)
    unfold codeB; rw [a, b, c]
  · obtain ⟨a, b⟩ := emb3 (k0_off2_eq k) (k0_off2_inb k) x
    refine (cast1 _ x).trans ((Head.v85 q (T.rq k hk) 0 (x 2)).trans ?_)
    unfold scaleB; rw [a, b]
  · obtain ⟨a, b, c⟩ := emb4 (k0_off1_eq k) (k0_off1_inb k) x
    refine (cast256 _ x).trans ((Head.v209 kk (T.rk k hk) (x 2) (x 3)).trans ?_)
    unfold codeB; rw [a, b, c]
  · obtain ⟨a, b⟩ := emb3 (k0_off2_eq k) (k0_off2_inb k) x
    refine (cast1 _ x).trans ((Head.v192 kk (T.rk k hk) 0 (x 2)).trans ?_)
    unfold scaleB; rw [a, b]
end Run

end Cert.Proof
-- ==== Proof.Decay.lean ====
/- The kernel's constant matrix of the decay's signs, entry by entry. -/
module

public import proofs.«01_k».proof.Proof.Head

@[expose] public section

set_option maxRecDepth 16384

noncomputable section

namespace Cert.Proof

open Idealize.ShloMosaic Idealize.ShloMosaic.TcCoe Finset Cert.KernelIdeal Cert.KernelIdeal.Gen

/-- A number below 2^31 as a signed word. -/
theorem toInt_small (n : ℕ) (h : n < 2 ^ 31) : (BitVec.ofNat 32 n).toInt = n := by
  rw [BitVec.toInt_eq_toNat_of_lt (by simp only [BitVec.toNat_ofNat]; omega)]
  simp only [BitVec.toNat_ofNat]; omega

/-- A truth value as a word of one bit. -/
theorem bit (p : Prop) [Decidable p] : BitVec.ofBool (decide p) = if p then 1#1 else 0#1 := by
  by_cases h : p <;> simp [h]
theorem bit_and (p q : Prop) [Decidable p] [Decidable q] :
    IntOp.andi (if p then 1#1 else 0#1) (if q then 1#1 else 0#1) = if p ∧ q then 1#1 else 0#1 := by
  by_cases h : p <;> by_cases h' : q <;> simp [h, h'] <;> rfl
theorem bit_select {α : Type} (p : Prop) [Decidable p] (x y : α) :
    Scalar.select (if p then 1#1 else 0#1) x y = if p then x else y := by
  by_cases h : p <;> simp [h, Scalar.select]

/-- Signed comparisons of small words. -/
theorem sge_small (a b : ℕ) (ha : a < 2 ^ 31) (hb : b < 2 ^ 31) :
    IntOp.cmpi .sge (BitVec.ofNat 32 a) (BitVec.ofNat 32 b) = if b ≤ a then 1#1 else 0#1 := by
  rw [← bit]; simp only [IntOp.cmpi, BitVec.sle, toInt_small a ha, toInt_small b hb, Nat.cast_le]
theorem sle_small (a b : ℕ) (ha : a < 2 ^ 31) (hb : b < 2 ^ 31) :
    IntOp.cmpi .sle (BitVec.ofNat 32 a) (BitVec.ofNat 32 b) = if a ≤ b then 1#1 else 0#1 := by
  rw [← bit]; simp only [IntOp.cmpi, BitVec.sle, toInt_small a ha, toInt_small b hb, Nat.cast_le]
theorem slt_small (a b : ℕ) (ha : a < 2 ^ 31) (hb : b < 2 ^ 31) :
    IntOp.cmpi .slt (BitVec.ofNat 32 a) (BitVec.ofNat 32 b) = if a < b then 1#1 else 0#1 := by
  rw [← bit]; simp only [IntOp.cmpi, BitVec.slt, toInt_small a ha, toInt_small b hb, Nat.cast_lt]
theorem sgt_small (a b : ℕ) (ha : a < 2 ^ 31) (hb : b < 2 ^ 31) :
    IntOp.cmpi .sgt (BitVec.ofNat 32 a) (BitVec.ofNat 32 b) = if b < a then 1#1 else 0#1 := by
  rw [← bit]; simp only [IntOp.cmpi, BitVec.slt, toInt_small a ha, toInt_small b hb, Nat.cast_lt]

/-- The middle of the block of 128 tokens a token lies in, as the kernel computes it. -/
theorem middle : ∀ b : Fin 256, IntOp.addi
            (IntOp.muli
              (Scalar.select
                (IntOp.andi
                  (IntOp.cmpi CmpIPredicate.ne
                    (IntOp.subi (BitVec.setWidth 32 (IntOp.cmpi CmpIPredicate.sgt (BitVec.ofNat 32 ↑b) 0#32))
                      (BitVec.setWidth 32 (IntOp.cmpi CmpIPredicate.slt (BitVec.ofNat 32 ↑b) 0#32)))
                    (Scalar.subi (Scalar.extui (Scalar.cmpi CmpIPredicate.sgt 128#32 0#32))
                      (Scalar.extui (Scalar.cmpi CmpIPredicate.slt 128#32 0#32))))
                  (IntOp.cmpi CmpIPredicate.ne (IntOp.remsi ArithUnit.vector (BitVec.ofNat 32 ↑b) 128#32) 0#32))
                (IntOp.subi (IntOp.divsi ArithUnit.vector (BitVec.ofNat 32 ↑b) 128#32) 1#32)
                (IntOp.divsi ArithUnit.vector (BitVec.ofNat 32 ↑b) 128#32))
              128#32)
            64#32 = BitVec.ofNat 32 (b.val / 128 * 128 + 64) ∧
    IntOp.subi (BitVec.ofNat 32 (b.val / 128 * 128 + 64)) 64#32 = BitVec.ofNat 32 (b.val / 128 * 128) := by
  decide +kernel

/-- The kernel's matrix is the one that sums log gates from the middle of a block to a token. -/
theorem decay : IsR (k0_pay3 (F := Ideal)) dec := by
  intro a b
  unfold k0_pay3
  pointwise
  have ha := a.isLt
  have hb := b.isLt
  simp only [(middle b).1, (middle b).2, sge_small a (b.val / 128 * 128 + 64) (by omega) (by omega), sle_small a b (by omega) (by omega),
    slt_small a (b.val / 128 * 128 + 64) (by omega) (by omega), sgt_small a b (by omega) (by omega), sge_small a (b.val / 128 * 128) (by omega) (by omega)]
  unfold dec
  have c1 := Head.neg_eighth32
  have c2 := Head.eighth32
  simp only [Ideal.ofBits_def] at c1 c2
  simp only [bit_and, bit_select, c1, c2, and_assoc]
  split
  · rfl
  · split <;> rfl

end Cert.Proof
-- ==== Proof.Point.lean ====
/- The blocks each grid point leaves in the results' buffers. -/
module

public import proofs.«01_k».proof.Proof.Trip
public import proofs.«01_k».proof.Proof.Decay
public import proofs.«01_k».proof.Proof.Gen.KernelIdeal.Frame

@[expose] public section

set_option maxRecDepth 16384

noncomputable section

namespace Cert.Proof

open Idealize.ShloMosaic Idealize.ShloMosaic.TcCoe Finset Cert.KernelIdeal Cert.KernelIdeal.Gen Cert.KernelIdeal.Gen.trip_k0_t1

section Run
variable {𝒱 : Variants} {c : Dev nD} {bd : Option 𝒱.V} {i : grid0.Coords} {arg2 : Memref sig .tc .vmem S1x8x160x256 .bf16} {harg2 : arg2.IsWhole} {arg3 :
  Memref sig .tc .vmem S1x8x160x256 .bf16} {harg3 : arg3.IsWhole} {arg4 : Memref sig .tc .vmem S1x8x160x256 .bf16} {harg4 : arg4.IsWhole} {arg5 : Memref
  sig .tc .vmem S1x8x96x256 .bf16} {harg5 : arg5.IsWhole} {arg6 : Memref sig .tc .vmem S1x8x160x256 .bf16} {harg6 : arg6.IsWhole} {arg7 : Memref sig .tc
  .vmem S1x8x160x96 .f32} {harg7 : arg7.IsWhole} {arg8 : Memref sig .tc .vmem S1x8x160x96 .f32} {harg8 : arg8.IsWhole} {arg9 : Memref sig .tc .vmem
  S1x8x160x256 .fp8e4m3} {harg9 : arg9.IsWhole} {arg10 : Memref sig .tc .vmem S1x8x256 .f32} {harg10 : arg10.IsWhole} {arg11 : Memref sig .tc .vmem
  S1x8x160x256 .fp8e4m3} {harg11 : arg11.IsWhole} {arg12 : Memref sig .tc .vmem S1x8x256 .f32} {harg12 : arg12.IsWhole} {arg13 : Memref sig .tc .vmem
  S256x256 .bf16} {harg13 : arg13.IsWhole}
  {x0 x1 x2 : Vec Ideal S1x8x160x256 .bf16} {x3 : Vec Ideal S1x8x96x256 .bf16} {xs : Vec Ideal S256x256 .bf16}
  {Q K : ℕ → ℕ → ℕ → ℝ} {V : ℕ → ℕ → ℕ → EReal} {F : ℕ → ℕ → ℕ → ℝ}

/-- A load of the whole matrix of signs. -/
theorem load_signs (hx : IsR (φ := .bf16) xs dec) : IsR (φ := .bf16) (sl.r_3 (F := Ideal) arg13 (harg13.unread xs)) dec := by
  intro s t
  refine (harg13.readAt_unread xs _ _).trans (Eq.trans (congrArg xs (funext fun a => Fin.ext ?_)) (hx s t))
  match a with
  | ⟨0, _⟩ => show 0 + 1 * s.val = s.val; omega
  | ⟨1, _⟩ => show 0 + 1 * t.val = t.val; omega

theorem signs_piece (p : View.Piece (Elt Ideal) S256x256 .bf16) (hp : p ∈ kernelRun0_A.sl.HS0_1 (F := Ideal)) (x : p.1.shape.Idx) :
    p.2 x = k0_pay3 (F := Ideal) (p.1.emb x) := by
  unfold kernelRun0_A.sl.HS0_1 at hp
  obtain rfl := List.mem_singleton.1 hp
  have e : k0_pay1 (k0_pay3 (F := Ideal)) = k0_pay3 (F := Ideal) := by
    unfold k0_pay1
    exact shapeCast_self _ _
  refine (congrFun e x).trans ?_
  refine congrArg (k0_pay3 (F := Ideal)) (funext fun a => Fin.ext ?_)
  match a with
  | ⟨0, _⟩ => show (x 0).val = 0 + 1 * (x 0).val; omega
  | ⟨1, _⟩ => show (x 1).val = 0 + 1 * (x 1).val; omega

/-- The matrix a first grid point leaves in its scratch memory. -/
theorem signs (hc : cond0_0 i) : sout0_A_0 (F := Ideal) c i arg2 harg2 arg3 harg3 arg4 harg4 arg5 harg5 arg6 harg6 arg7 harg7 arg8 harg8 arg9 harg9 arg10 harg10 arg11 harg11 arg12 harg12 arg13 harg13 hc x0 x1 x2 x3 = k0_pay3 (F := Ideal) := by
  have cv := scover0_A_0 (F := Ideal) c i arg2 harg2 arg3 harg3 arg4 harg4 arg5 harg5 arg6 harg6 arg7 harg7 arg8 harg8 arg9 harg9 arg10 harg10 arg11 harg11 arg12 harg12 arg13 harg13 hc x0 x1 x2 x3
  refine (View.read_writes_eq_canon _ _ _ cv).trans (funext fun y => ?_)
  exact View.canon_apply_of_pieces _ _ signs_piece y (cv y)

theorem load_signs_A (cv : ∀ y, ∃ pc ∈ kernelRun0_A.sl.HS0_1 (F := Ideal), y ∈ pc.1.set) : IsR (φ := .bf16) (sl.r_3 (F := Ideal) arg13 (arg13.view.writes (Elt Ideal) arg13.view.junk (kernelRun0_A.sl.HS0_1 (F := Ideal)))) dec := by
  intro s t
  have e : arg13.view.read (Elt Ideal) (arg13.view.writes (Elt Ideal) arg13.view.junk (kernelRun0_A.sl.HS0_1 (F := Ideal))) = k0_pay3 (F := Ideal) := by
    refine (View.read_writes_eq_canon _ _ _ cv).trans (funext fun y => ?_)
    exact View.canon_apply_of_pieces _ _ signs_piece y (cv y)
  refine (congrFun e _).trans (Eq.trans (congrArg (k0_pay3 (F := Ideal)) (funext fun a => Fin.ext ?_)) (decay s t))
  match a with
  | ⟨0, _⟩ => show 0 + 1 * s.val = s.val; omega
  | ⟨1, _⟩ => show 0 + 1 * t.val = t.val; omega

/-- A first grid point's blocks. -/
theorem outs_A (hc : cond0_0 i) (T : Tokens x0 x1 x2 x3 Q K V F) :
    out0_A_4 (F := Ideal) c i arg2 harg2 arg3 harg3 arg4 harg4 arg5 harg5 arg6 harg6 arg7 harg7 arg8 harg8 arg9 harg9 arg10 harg10 arg11 harg11 arg12 harg12 arg13 harg13 hc x0 x1 x2 x3 = oB Q K V F ∧ out0_A_5 (F := Ideal) c i arg2 harg2 arg3 harg3 arg4 harg4 arg5 harg5 arg6 harg6 arg7 harg7 arg8 harg8 arg9 harg9 arg10 harg10 arg11 harg11 arg12 harg12 arg13 harg13 hc x0 x1 x2 x3 = ksB K F ∧
    out0_A_6 (F := Ideal) c i arg2 harg2 arg3 harg3 arg4 harg4 arg5 harg5 arg6 harg6 arg7 harg7 arg8 harg8 arg9 harg9 arg10 harg10 arg11 harg11 arg12 harg12 arg13 harg13 hc x0 x1 x2 x3 = vsB V F ∧ out0_A_7 (F := Ideal) c i arg2 harg2 arg3 harg3 arg4 harg4 arg5 harg5 arg6 harg6 arg7 harg7 arg8 harg8 arg9 harg9 arg10 harg10 arg11 harg11 arg12 harg12 arg13 harg13 hc x0 x1 x2 x3 = codeB Q ∧
    out0_A_8 (F := Ideal) c i arg2 harg2 arg3 harg3 arg4 harg4 arg5 harg5 arg6 harg6 arg7 harg7 arg8 harg8 arg9 harg9 arg10 harg10 arg11 harg11 arg12 harg12 arg13 harg13 hc x0 x1 x2 x3 = scaleB Q ∧ out0_A_9 (F := Ideal) c i arg2 harg2 arg3 harg3 arg4 harg4 arg5 harg5 arg6 harg6 arg7 harg7 arg8 harg8 arg9 harg9 arg10 harg10 arg11 harg11 arg12 harg12 arg13 harg13 hc x0 x1 x2 x3 = codeB K ∧
    out0_A_10 (F := Ideal) c i arg2 harg2 arg3 harg3 arg4 harg4 arg5 harg5 arg6 harg6 arg7 harg7 arg8 harg8 arg9 harg9 arg10 harg10 arg11 harg11 arg12 harg12 arg13 harg13 hc x0 x1 x2 x3 = scaleB K := by
  obtain ⟨h1, h2, h3, h4, h5, h6, h7⟩ := trip_values (𝒱 := Variants.none) (c := c) (bd := none) (i := i) (harg2 := harg2) (harg3 := harg3) (harg4 := harg4) (harg5 := harg5)
    (harg6 := harg6) (harg7 := harg7) (harg8 := harg8) (harg9 := harg9) (harg10 := harg10) (harg11 := harg11) (harg12 := harg12) (harg13 := harg13)
    T (load_signs_A (scover0_A_0 (F := Ideal) c i arg2 harg2 arg3 harg3 arg4 harg4 arg5 harg5 arg6 harg6 arg7 harg7 arg8 harg8 arg9 harg9 arg10 harg10 arg11 harg11 arg12 harg12 arg13 harg13 hc x0 x1 x2 x3)) _ le_rfl
  refine ⟨?_, ?_, ?_, ?_, ?_, ?_, ?_⟩
  · have cv := cover0_A_4 (F := Ideal) c i arg2 harg2 arg3 harg3 arg4 harg4 arg5 harg5 arg6 harg6 arg7 harg7 arg8 harg8 arg9 harg9 arg10 harg10 arg11 harg11 arg12 harg12 arg13 harg13 hc x0 x1 x2 x3
    exact (View.read_writes_eq_canon _ _ _ cv).trans (funext fun y => View.canon_apply_of_pieces _ _ h1 y (cv y))
  · have cv := cover0_A_5 (F := Ideal) c i arg2 harg2 arg3 harg3 arg4 harg4 arg5 harg5 arg6 harg6 arg7 harg7 arg8 harg8 arg9 harg9 arg10 harg10 arg11 harg11 arg12 harg12 arg13 harg13 hc x0 x1 x2 x3
    exact (View.read_writes_eq_canon _ _ _ cv).trans (funext fun y => View.canon_apply_of_pieces _ _ h2 y (cv y))
  · have cv := cover0_A_6 (F := Ideal) c i arg2 harg2 arg3 harg3 arg4 harg4 arg5 harg5 arg6 harg6 arg7 harg7 arg8 harg8 arg9 harg9 arg10 harg10 arg11 harg11 arg12 harg12 arg13 harg13 hc x0 x1 x2 x3
    exact (View.read_writes_eq_canon _ _ _ cv).trans (funext fun y => View.canon_apply_of_pieces _ _ h3 y (cv y))
  · have cv := cover0_A_7 (F := Ideal) c i arg2 harg2 arg3 harg3 arg4 harg4 arg5 harg5 arg6 harg6 arg7 harg7 arg8 harg8 arg9 harg9 arg10 harg10 arg11 harg11 arg12 harg12 arg13 harg13 hc x0 x1 x2 x3
    exact (View.read_writes_eq_canon _ _ _ cv).trans (funext fun y => View.canon_apply_of_pieces _ _ h4 y (cv y))
  · have cv := cover0_A_8 (F := Ideal) c i arg2 harg2 arg3 harg3 arg4 harg4 arg5 harg5 arg6 harg6 arg7 harg7 arg8 harg8 arg9 harg9 arg10 harg10 arg11 harg11 arg12 harg12 arg13 harg13 hc x0 x1 x2 x3
    exact (View.read_writes_eq_canon _ _ _ cv).trans (funext fun y => View.canon_apply_of_pieces _ _ h5 y (cv y))
  · have cv := cover0_A_9 (F := Ideal) c i arg2 harg2 arg3 harg3 arg4 harg4 arg5 harg5 arg6 harg6 arg7 harg7 arg8 harg8 arg9 harg9 arg10 harg10 arg11 harg11 arg12 harg12 arg13 harg13 hc x0 x1 x2 x3
    exact (View.read_writes_eq_canon _ _ _ cv).trans (funext fun y => View.canon_apply_of_pieces _ _ h6 y (cv y))
  · have cv := cover0_A_10 (F := Ideal) c i arg2 harg2 arg3 harg3 arg4 harg4 arg5 harg5 arg6 harg6 arg7 harg7 arg8 harg8 arg9 harg9 arg10 harg10 arg11 harg11 arg12 harg12 arg13 harg13 hc x0 x1 x2 x3
    exact (View.read_writes_eq_canon _ _ _ cv).trans (funext fun y => View.canon_apply_of_pieces _ _ h7 y (cv y))

/-- A later grid point's blocks. -/
theorem outs_B (hc : ¬cond0_0 i) (hx : IsR (φ := .bf16) xs dec) (T : Tokens x0 x1 x2 x3 Q K V F) :
    out0_B_4 (F := Ideal) c i arg2 harg2 arg3 harg3 arg4 harg4 arg5 harg5 arg6 harg6 arg7 harg7 arg8 harg8 arg9 harg9 arg10 harg10 arg11 harg11 arg12 harg12 arg13 harg13 hc x0 x1 x2 x3 xs = oB Q K V F ∧ out0_B_5 (F := Ideal) c i arg2 harg2 arg3 harg3 arg4 harg4 arg5 harg5 arg6 harg6 arg7 harg7 arg8 harg8 arg9 harg9 arg10 harg10 arg11 harg11 arg12 harg12 arg13 harg13 hc x0 x1 x2 x3 xs = ksB K F ∧
    out0_B_6 (F := Ideal) c i arg2 harg2 arg3 harg3 arg4 harg4 arg5 harg5 arg6 harg6 arg7 harg7 arg8 harg8 arg9 harg9 arg10 harg10 arg11 harg11 arg12 harg12 arg13 harg13 hc x0 x1 x2 x3 xs = vsB V F ∧ out0_B_7 (F := Ideal) c i arg2 harg2 arg3 harg3 arg4 harg4 arg5 harg5 arg6 harg6 arg7 harg7 arg8 harg8 arg9 harg9 arg10 harg10 arg11 harg11 arg12 harg12 arg13 harg13 hc x0 x1 x2 x3 xs = codeB Q ∧
    out0_B_8 (F := Ideal) c i arg2 harg2 arg3 harg3 arg4 harg4 arg5 harg5 arg6 harg6 arg7 harg7 arg8 harg8 arg9 harg9 arg10 harg10 arg11 harg11 arg12 harg12 arg13 harg13 hc x0 x1 x2 x3 xs = scaleB Q ∧ out0_B_9 (F := Ideal) c i arg2 harg2 arg3 harg3 arg4 harg4 arg5 harg5 arg6 harg6 arg7 harg7 arg8 harg8 arg9 harg9 arg10 harg10 arg11 harg11 arg12 harg12 arg13 harg13 hc x0 x1 x2 x3 xs = codeB K ∧
    out0_B_10 (F := Ideal) c i arg2 harg2 arg3 harg3 arg4 harg4 arg5 harg5 arg6 harg6 arg7 harg7 arg8 harg8 arg9 harg9 arg10 harg10 arg11 harg11 arg12 harg12 arg13 harg13 hc x0 x1 x2 x3 xs = scaleB K := by
  obtain ⟨h1, h2, h3, h4, h5, h6, h7⟩ := trip_values (𝒱 := Variants.none) (c := c) (bd := none) (i := i) (harg2 := harg2) (harg3 := harg3) (harg4 := harg4) (harg5 := harg5)
    (harg6 := harg6) (harg7 := harg7) (harg8 := harg8) (harg9 := harg9) (harg10 := harg10) (harg11 := harg11) (harg12 := harg12) (harg13 := harg13)
    T (load_signs hx) _ le_rfl
  refine ⟨?_, ?_, ?_, ?_, ?_, ?_, ?_⟩
  · have cv := cover0_B_4 (F := Ideal) c i arg2 harg2 arg3 harg3 arg4 harg4 arg5 harg5 arg6 harg6 arg7 harg7 arg8 harg8 arg9 harg9 arg10 harg10 arg11 harg11 arg12 harg12 arg13 harg13 hc x0 x1 x2 x3 xs
    exact (View.read_writes_eq_canon _ _ _ cv).trans (funext fun y => View.canon_apply_of_pieces _ _ h1 y (cv y))
  · have cv := cover0_B_5 (F := Ideal) c i arg2 harg2 arg3 harg3 arg4 harg4 arg5 harg5 arg6 harg6 arg7 harg7 arg8 harg8 arg9 harg9 arg10 harg10 arg11 harg11 arg12 harg12 arg13 harg13 hc x0 x1 x2 x3 xs
    exact (View.read_writes_eq_canon _ _ _ cv).trans (funext fun y => View.canon_apply_of_pieces _ _ h2 y (cv y))
  · have cv := cover0_B_6 (F := Ideal) c i arg2 harg2 arg3 harg3 arg4 harg4 arg5 harg5 arg6 harg6 arg7 harg7 arg8 harg8 arg9 harg9 arg10 harg10 arg11 harg11 arg12 harg12 arg13 harg13 hc x0 x1 x2 x3 xs
    exact (View.read_writes_eq_canon _ _ _ cv).trans (funext fun y => View.canon_apply_of_pieces _ _ h3 y (cv y))
  · have cv := cover0_B_7 (F := Ideal) c i arg2 harg2 arg3 harg3 arg4 harg4 arg5 harg5 arg6 harg6 arg7 harg7 arg8 harg8 arg9 harg9 arg10 harg10 arg11 harg11 arg12 harg12 arg13 harg13 hc x0 x1 x2 x3 xs
    exact (View.read_writes_eq_canon _ _ _ cv).trans (funext fun y => View.canon_apply_of_pieces _ _ h4 y (cv y))
  · have cv := cover0_B_8 (F := Ideal) c i arg2 harg2 arg3 harg3 arg4 harg4 arg5 harg5 arg6 harg6 arg7 harg7 arg8 harg8 arg9 harg9 arg10 harg10 arg11 harg11 arg12 harg12 arg13 harg13 hc x0 x1 x2 x3 xs
    exact (View.read_writes_eq_canon _ _ _ cv).trans (funext fun y => View.canon_apply_of_pieces _ _ h5 y (cv y))
  · have cv := cover0_B_9 (F := Ideal) c i arg2 harg2 arg3 harg3 arg4 harg4 arg5 harg5 arg6 harg6 arg7 harg7 arg8 harg8 arg9 harg9 arg10 harg10 arg11 harg11 arg12 harg12 arg13 harg13 hc x0 x1 x2 x3 xs
    exact (View.read_writes_eq_canon _ _ _ cv).trans (funext fun y => View.canon_apply_of_pieces _ _ h6 y (cv y))
  · have cv := cover0_B_10 (F := Ideal) c i arg2 harg2 arg3 harg3 arg4 harg4 arg5 harg5 arg6 harg6 arg7 harg7 arg8 harg8 arg9 harg9 arg10 harg10 arg11 harg11 arg12 harg12 arg13 harg13 hc x0 x1 x2 x3 xs
    exact (View.read_writes_eq_canon _ _ _ cv).trans (funext fun y => View.canon_apply_of_pieces _ _ h7 y (cv y))

end Run

end Cert.Proof
-- ==== Proof.Final.lean ====
/- What the kernel leaves in the arrays of its results. -/
module

public import proofs.«01_k».proof.Proof.Point
public import Idealize.ShloMosaic.Lib.Pipeline.ValueKit
public import Idealize.ShloMosaic.Lib.Claim

@[expose] public section

set_option maxRecDepth 16384

noncomputable section

namespace Cert.Proof

open Idealize.ShloMosaic Idealize.ShloMosaic.TcCoe Finset Cert.KernelIdeal Cert.KernelIdeal.Gen

/-- The four arguments, by batch and head: real queries, keys and forget logits, values of any kind, each token's queries and keys in range. -/
structure Args (q k v : Vec Ideal S6x256x24x160 .bf16) (f : Vec Ideal S6x256x24x96 .bf16)
    (Q K : ℕ → ℕ → ℕ → ℕ → ℝ) (V : ℕ → ℕ → ℕ → ℕ → EReal) (F : ℕ → ℕ → ℕ → ℕ → ℝ) : Prop where
  hq : ∀ (b : Fin 6) (t : Fin 256) (h : Fin 24) (d : Fin 160), q (ix4 b t h d) = ((Q b h t d : ℝ) : EReal)
  hk : ∀ (b : Fin 6) (t : Fin 256) (h : Fin 24) (d : Fin 160), k (ix4 b t h d) = ((K b h t d : ℝ) : EReal)
  hv : ∀ (b : Fin 6) (t : Fin 256) (h : Fin 24) (d : Fin 160), v (ix4 b t h d) = V b h d t
  hf : ∀ (b : Fin 6) (t : Fin 256) (h : Fin 24) (j : Fin 96), f (ix4 b t h j) = ((F b h j t : ℝ) : EReal)
  rq : ∀ b < 6, ∀ h < 24, ∀ t < 256, InRange (Q b h t)
  rk : ∀ b < 6, ∀ h < 24, ∀ t < 256, InRange (K b h t)

/-- The block of each array a grid point works on. -/
theorem idx : ∀ t : Fin grid0.N, (t.val < 18) ∧
    (win0_0.index t 0 = t.val / 3 ∧ win0_0.index t 1 = t.val % 3 ∧ win0_0.index t 2 = 0 ∧ win0_0.index t 3 = 0) ∧
    (win0_1.index t 0 = t.val / 3 ∧ win0_1.index t 1 = t.val % 3 ∧ win0_1.index t 2 = 0 ∧ win0_1.index t 3 = 0) ∧
    (win0_2.index t 0 = t.val / 3 ∧ win0_2.index t 1 = t.val % 3 ∧ win0_2.index t 2 = 0 ∧ win0_2.index t 3 = 0) ∧
    (win0_3.index t 0 = t.val / 3 ∧ win0_3.index t 1 = t.val % 3 ∧ win0_3.index t 2 = 0 ∧ win0_3.index t 3 = 0) ∧
    (win0_4.index t 0 = t.val / 3 ∧ win0_4.index t 1 = t.val % 3 ∧ win0_4.index t 2 = 0 ∧ win0_4.index t 3 = 0) ∧
    (win0_5.index t 0 = t.val / 3 ∧ win0_5.index t 1 = t.val % 3 ∧ win0_5.index t 2 = 0 ∧ win0_5.index t 3 = 0) ∧
    (win0_6.index t 0 = t.val / 3 ∧ win0_6.index t 1 = t.val % 3 ∧ win0_6.index t 2 = 0 ∧ win0_6.index t 3 = 0) ∧
    (win0_7.index t 0 = t.val / 3 ∧ win0_7.index t 1 = t.val % 3 ∧ win0_7.index t 2 = 0 ∧ win0_7.index t 3 = 0) ∧
    (win0_8.index t 0 = t.val / 3 ∧ win0_8.index t 1 = t.val % 3 ∧ win0_8.index t 2 = 0) ∧
    (win0_9.index t 0 = t.val / 3 ∧ win0_9.index t 1 = t.val % 3 ∧ win0_9.index t 2 = 0 ∧ win0_9.index t 3 = 0) ∧
    (win0_10.index t 0 = t.val / 3 ∧ win0_10.index t 1 = t.val % 3 ∧ win0_10.index t 2 = 0) := by
  decide +kernel

section
variable (m : (ℓ : Loc nD τ sig) → Buf (Elt Ideal) ℓ) (c : Dev nD)
  {Q K : ℕ → ℕ → ℕ → ℕ → ℝ} {V : ℕ → ℕ → ℕ → ℕ → EReal} {F : ℕ → ℕ → ℕ → ℕ → ℝ}

/-- The arrays the grid reads: the arguments with the tokens on the last axis. -/
theorem V_q : Gen.V m c main_v0 = transpose S6x24x160x256 [0, 2, 3, 1] (m ((c : Thread nD τ).loc main_arg0)) transposes_S6x256x24x160_S6x24x160x256_0_2_3_1 := by
  show StableHlo.after hostOps0 _ _ = _
  unfold hostOps0
  repeat rw [StableHlo.after_cons]
  rw [StableHlo.after_nil]
  after_results
theorem V_k : Gen.V m c main_v1 = transpose S6x24x160x256 [0, 2, 3, 1] (m ((c : Thread nD τ).loc main_arg1)) transposes_S6x256x24x160_S6x24x160x256_0_2_3_1 := by
  show StableHlo.after hostOps0 _ _ = _
  unfold hostOps0
  repeat rw [StableHlo.after_cons]
  rw [StableHlo.after_nil]
  after_results
theorem V_v : Gen.V m c main_v2 = transpose S6x24x160x256 [0, 2, 3, 1] (m ((c : Thread nD τ).loc main_arg2)) transposes_S6x256x24x160_S6x24x160x256_0_2_3_1 := by
  show StableHlo.after hostOps0 _ _ = _
  unfold hostOps0
  repeat rw [StableHlo.after_cons]
  rw [StableHlo.after_nil]
  after_results
theorem V_f : Gen.V m c main_v3 = transpose S6x24x96x256 [0, 2, 3, 1] (m ((c : Thread nD τ).loc main_arg3)) transposes_S6x256x24x96_S6x24x96x256_0_2_3_1 := by
  show StableHlo.after hostOps0 _ _ = _
  unfold hostOps0
  repeat rw [StableHlo.after_cons]
  rw [StableHlo.after_nil]
  after_results

set_option maxHeartbeats 1000000 in
theorem tokens (A : Args (m ((c : Thread nD τ).loc main_arg0)) (m ((c : Thread nD τ).loc main_arg1)) (m ((c : Thread nD τ).loc main_arg2))
    (m ((c : Thread nD τ).loc main_arg3)) Q K V F) (t : Fin cfg0.N) :
    Tokens (iblk m c 0 t) (iblk m c 1 t) (iblk m c 2 t) (iblk m c 3 t) (fun k => Q (t.val / 3) (t.val % 3 * 8 + k)) (fun k => K (t.val / 3) (t.val % 3 * 8 + k))
      (fun k => V (t.val / 3) (t.val % 3 * 8 + k)) (fun k => F (t.val / 3) (t.val % 3 * 8 + k)) := by
  have ht : t.val < 18 := (idx t).1
  refine ⟨fun k d s => ?_, fun k d s => ?_, fun k d s => ?_, fun k j s => ?_, fun k hk s hs => A.rq _ (by omega) _ (by omega) s hs, fun k hk s hs => A.rk _ (by omega) _ (by omega) s hs⟩
  · refine Eq.trans ?_ (A.hq ⟨t.val / 3, by omega⟩ s ⟨t.val % 3 * 8 + k, by omega⟩ d)
    blk_simp [iblk]
    rw [V_q m c]
    pointwise
    blk_ext [idx t]
  · refine Eq.trans ?_ (A.hk ⟨t.val / 3, by omega⟩ s ⟨t.val % 3 * 8 + k, by omega⟩ d)
    blk_simp [iblk]
    rw [V_k m c]
    pointwise
    blk_ext [idx t]
  · refine Eq.trans ?_ (A.hv ⟨t.val / 3, by omega⟩ s ⟨t.val % 3 * 8 + k, by omega⟩ d)
    blk_simp [iblk]
    rw [V_v m c]
    pointwise
    blk_ext [idx t]
  · refine Eq.trans ?_ (A.hf ⟨t.val / 3, by omega⟩ s ⟨t.val % 3 * 8 + k, by omega⟩ j)
    blk_simp [iblk]
    rw [V_f m c]
    pointwise
    blk_ext [idx t]

/-- The scratch memory holds the matrix of signs after every grid point. -/
theorem scratch : ∀ (n : ℕ) (hn : n < cfg0.N), (outsAt0 m c n hn).2.2.2.2.2.2.2 = k0_pay3 (F := Ideal)
  | 0, hn => by
    rw [outsAt0_A m c ⟨0, hn⟩ rfl]
    dsimp only
    exact signs _
  | n + 1, hn => by
    have ih := scratch n (Nat.lt_of_succ_lt hn)
    by_cases h0 : (n + 1) % 18 = 0
    · rw [outsAt0_A m c ⟨n + 1, hn⟩ h0]
      dsimp only
      exact signs _
    · rw [outsAt0_B m c ⟨n + 1, hn⟩ h0]
      exact ih

/-- What every grid point leaves in the results' buffers. -/
theorem outs {Q K : ℕ → ℕ → ℕ → ℝ} {V : ℕ → ℕ → ℕ → EReal} {F : ℕ → ℕ → ℕ → ℝ} (t : Fin cfg0.N)
    (T : Tokens (iblk m c 0 t) (iblk m c 1 t) (iblk m c 2 t) (iblk m c 3 t) Q K V F) :
    (dats m 0 c).after 4 t = oB Q K V F ∧ (dats m 0 c).after 5 t = ksB K F ∧ (dats m 0 c).after 6 t = vsB V F ∧ (dats m 0 c).after 7 t = codeB Q ∧
    (dats m 0 c).after 8 t = scaleB Q ∧ (dats m 0 c).after 9 t = codeB K ∧ (dats m 0 c).after 10 t = scaleB K := by
  rw [after0_4, after0_5, after0_6, after0_7, after0_8, after0_9, after0_10]
  by_cases h0 : t.val % 18 = 0
  · rw [outsAt0_A m c t h0]
    exact outs_A _ T
  · rw [outsAt0_B m c t h0]
    refine outs_B _ ?_ T
    rw [scratch]
    exact decay

/-- The seven result arrays, with the tokens (or slots) on the last axis. -/
def oT (Q K : ℕ → ℕ → ℕ → ℕ → ℝ) (V : ℕ → ℕ → ℕ → ℕ → EReal) (F : ℕ → ℕ → ℕ → ℕ → ℝ) : Vec Ideal S6x24x160x256 .bf16 := fun y =>
  oAt (Q (y 0).val (y 1).val) (K (y 0).val (y 1).val) (V (y 0).val (y 1).val) (F (y 0).val (y 1).val) (y 2).val (y 3).val
def ksT (K F : ℕ → ℕ → ℕ → ℕ → ℝ) : Vec Ideal S6x24x160x96 .f32 := fun y => ksAt (K (y 0).val (y 1).val) (F (y 0).val (y 1).val) (y 2).val (y 3).val
def vsT (V : ℕ → ℕ → ℕ → ℕ → EReal) (F : ℕ → ℕ → ℕ → ℕ → ℝ) : Vec Ideal S6x24x160x96 .f32 := fun y =>
  vsAt (V (y 0).val (y 1).val) (F (y 0).val (y 1).val) (y 2).val (y 3).val
def codeT (Q : ℕ → ℕ → ℕ → ℕ → ℝ) : Vec Ideal S6x24x160x256 .fp8e4m3 := fun y => ((qcode (Q (y 0).val (y 1).val (y 3).val) (y 2).val : ℝ) : EReal)
def scaleT (Q : ℕ → ℕ → ℕ → ℕ → ℝ) : Vec Ideal S6x24x256 .f32 := fun y => (((2 : ℝ) ^ qe (Q (y 0).val (y 1).val (y 2).val) : ℝ) : EReal)

/-- The seven results. -/
def oR (Q K : ℕ → ℕ → ℕ → ℕ → ℝ) (V : ℕ → ℕ → ℕ → ℕ → EReal) (F : ℕ → ℕ → ℕ → ℕ → ℝ) : Vec Ideal S6x256x24x160 .bf16 := fun y =>
  oAt (Q (y 0).val (y 2).val) (K (y 0).val (y 2).val) (V (y 0).val (y 2).val) (F (y 0).val (y 2).val) (y 3).val (y 1).val
def ksR (K F : ℕ → ℕ → ℕ → ℕ → ℝ) : Vec Ideal S6x24x96x160 .f32 := fun y => ksAt (K (y 0).val (y 1).val) (F (y 0).val (y 1).val) (y 3).val (y 2).val
def vsR (V : ℕ → ℕ → ℕ → ℕ → EReal) (F : ℕ → ℕ → ℕ → ℕ → ℝ) : Vec Ideal S6x24x96x160 .f32 := fun y =>
  vsAt (V (y 0).val (y 1).val) (F (y 0).val (y 1).val) (y 3).val (y 2).val
def codeR (Q : ℕ → ℕ → ℕ → ℕ → ℝ) : Vec Ideal S6x256x24x160 .fp8e4m3 := fun y => ((qcode (Q (y 0).val (y 2).val (y 1).val) (y 3).val : ℝ) : EReal)
def scaleR (Q : ℕ → ℕ → ℕ → ℕ → ℝ) : Vec Ideal S6x256x24 .f32 := fun y => (((2 : ℝ) ^ qe (Q (y 0).val (y 2).val (y 1).val) : ℝ) : EReal)

theorem arrays : Function.Injective (Pipeline.arrRef spec0) := by decide +kernel

variable (A : Args (m ((c : Thread nD τ).loc main_arg0)) (m ((c : Thread nD τ).loc main_arg1)) (m ((c : Thread nD τ).loc main_arg2))
    (m ((c : Thread nD τ).loc main_arg3)) Q K V F)
include A

/-- The arrays of the results after the whole grid. -/
theorem final4 : (dats m 0 c).arrAt 4 (cfgs 0).N = oT Q K V F := by
  refine (dats m 0 c).arrAt_eq_of_covers 4 (oT Q K V F) (by decide +kernel) fun t _ y => ?_
  blk_simp
  rw [(outs m c t (tokens m c A t)).1]
  have h0 : (y 0).val < 1 := (y 0).isLt
  have e0 : (((win0_4.blk t).view.emb y) 0 : ℕ) = t.val / 3 := by blk_simp [idx t] <;> omega
  have e1 : (((win0_4.blk t).view.emb y) 1 : ℕ) = t.val % 3 * 8 + (y 1).val := by blk_simp [idx t] <;> omega
  have e2 : (((win0_4.blk t).view.emb y) 2 : ℕ) = (y 2).val := by blk_simp [idx t] <;> omega
  have e3 : (((win0_4.blk t).view.emb y) 3 : ℕ) = (y 3).val := by blk_simp [idx t] <;> omega
  simp only [oT, oB, e0, e1, e2, e3]
theorem final5 : (dats m 0 c).arrAt 5 (cfgs 0).N = ksT K F := by
  refine (dats m 0 c).arrAt_eq_of_covers 5 (ksT K F) (by decide +kernel) fun t _ y => ?_
  blk_simp
  rw [(outs m c t (tokens m c A t)).2.1]
  have h0 : (y 0).val < 1 := (y 0).isLt
  have e0 : (((win0_5.blk t).view.emb y) 0 : ℕ) = t.val / 3 := by blk_simp [idx t] <;> omega
  have e1 : (((win0_5.blk t).view.emb y) 1 : ℕ) = t.val % 3 * 8 + (y 1).val := by blk_simp [idx t] <;> omega
  have e2 : (((win0_5.blk t).view.emb y) 2 : ℕ) = (y 2).val := by blk_simp [idx t] <;> omega
  have e3 : (((win0_5.blk t).view.emb y) 3 : ℕ) = (y 3).val := by blk_simp [idx t] <;> omega
  simp only [ksT, ksB, e0, e1, e2, e3]
theorem final6 : (dats m 0 c).arrAt 6 (cfgs 0).N = vsT V F := by
  refine (dats m 0 c).arrAt_eq_of_covers 6 (vsT V F) (by decide +kernel) fun t _ y => ?_
  blk_simp
  rw [(outs m c t (tokens m c A t)).2.2.1]
  have h0 : (y 0).val < 1 := (y 0).isLt
  have e0 : (((win0_6.blk t).view.emb y) 0 : ℕ) = t.val / 3 := by blk_simp [idx t] <;> omega
  have e1 : (((win0_6.blk t).view.emb y) 1 : ℕ) = t.val % 3 * 8 + (y 1).val := by blk_simp [idx t] <;> omega
  have e2 : (((win0_6.blk t).view.emb y) 2 : ℕ) = (y 2).val := by blk_simp [idx t] <;> omega
  have e3 : (((win0_6.blk t).view.emb y) 3 : ℕ) = (y 3).val := by blk_simp [idx t] <;> omega
  simp only [vsT, vsB, e0, e1, e2, e3]
theorem final7 : (dats m 0 c).arrAt 7 (cfgs 0).N = codeT Q := by
  refine (dats m 0 c).arrAt_eq_of_covers 7 (codeT Q) (by decide +kernel) fun t _ y => ?_
  blk_simp
  rw [(outs m c t (tokens m c A t)).2.2.2.1]
  have h0 : (y 0).val < 1 := (y 0).isLt
  have e0 : (((win0_7.blk t).view.emb y) 0 : ℕ) = t.val / 3 := by blk_simp [idx t] <;> omega
  have e1 : (((win0_7.blk t).view.emb y) 1 : ℕ) = t.val % 3 * 8 + (y 1).val := by blk_simp [idx t] <;> omega
  have e2 : (((win0_7.blk t).view.emb y) 2 : ℕ) = (y 2).val := by blk_simp [idx t] <;> omega
  have e3 : (((win0_7.blk t).view.emb y) 3 : ℕ) = (y 3).val := by blk_simp [idx t] <;> omega
  simp only [codeT, codeB, e0, e1, e2, e3]
theorem final8 : (dats m 0 c).arrAt 8 (cfgs 0).N = scaleT Q := by
  refine (dats m 0 c).arrAt_eq_of_covers 8 (scaleT Q) (by decide +kernel) fun t _ y => ?_
  blk_simp
  rw [(outs m c t (tokens m c A t)).2.2.2.2.1]
  have h0 : (y 0).val < 1 := (y 0).isLt
  have e0 : (((win0_8.blk t).view.emb y) 0 : ℕ) = t.val / 3 := by blk_simp [idx t] <;> omega
  have e1 : (((win0_8.blk t).view.emb y) 1 : ℕ) = t.val % 3 * 8 + (y 1).val := by blk_simp [idx t] <;> omega
  have e2 : (((win0_8.blk t).view.emb y) 2 : ℕ) = (y 2).val := by blk_simp [idx t] <;> omega
  simp only [scaleT, scaleB, e0, e1, e2]
theorem final9 : (dats m 0 c).arrAt 9 (cfgs 0).N = codeT K := by
  refine (dats m 0 c).arrAt_eq_of_covers 9 (codeT K) (by decide +kernel) fun t _ y => ?_
  blk_simp
  rw [(outs m c t (tokens m c A t)).2.2.2.2.2.1]
  have h0 : (y 0).val < 1 := (y 0).isLt
  have e0 : (((win0_9.blk t).view.emb y) 0 : ℕ) = t.val / 3 := by blk_simp [idx t] <;> omega
  have e1 : (((win0_9.blk t).view.emb y) 1 : ℕ) = t.val % 3 * 8 + (y 1).val := by blk_simp [idx t] <;> omega
  have e2 : (((win0_9.blk t).view.emb y) 2 : ℕ) = (y 2).val := by blk_simp [idx t] <;> omega
  have e3 : (((win0_9.blk t).view.emb y) 3 : ℕ) = (y 3).val := by blk_simp [idx t] <;> omega
  simp only [codeT, codeB, e0, e1, e2, e3]
theorem final10 : (dats m 0 c).arrAt 10 (cfgs 0).N = scaleT K := by
  refine (dats m 0 c).arrAt_eq_of_covers 10 (scaleT K) (by decide +kernel) fun t _ y => ?_
  blk_simp
  rw [(outs m c t (tokens m c A t)).2.2.2.2.2.2]
  have h0 : (y 0).val < 1 := (y 0).isLt
  have e0 : (((win0_10.blk t).view.emb y) 0 : ℕ) = t.val / 3 := by blk_simp [idx t] <;> omega
  have e1 : (((win0_10.blk t).view.emb y) 1 : ℕ) = t.val % 3 * 8 + (y 1).val := by blk_simp [idx t] <;> omega
  have e2 : (((win0_10.blk t).view.emb y) 2 : ℕ) = (y 2).val := by blk_simp [idx t] <;> omega
  simp only [scaleT, scaleB, e0, e1, e2]
/-- What the lines after the grid leave in the results. -/
theorem tail5 : Pipeline.afterTail₀ cfgs (dats m) 0 (V0 m) [hostOps1] c main_v5 = oR Q K V F := by
  unfold Pipeline.afterTail₀
  show StableHlo.after hostOps1 _ _ = _
  unfold hostOps1
  repeat rw [StableHlo.after_cons]
  rw [StableHlo.after_nil]
  after_results
  refine (congrArg (fun z => transpose S6x256x24x160 [0, 3, 1, 2] z transposes_S6x24x160x256_S6x256x24x160_0_3_1_2) ((Pipeline.withArrays_arr spec0 arrays c _ _ 4).trans (final4 m c A))).trans (funext fun y => ?_)
  pointwise [oT, oR]
theorem tail8 : Pipeline.afterTail₀ cfgs (dats m) 0 (V0 m) [hostOps1] c main_v8 = ksR K F := by
  unfold Pipeline.afterTail₀
  show StableHlo.after hostOps1 _ _ = _
  unfold hostOps1
  repeat rw [StableHlo.after_cons]
  rw [StableHlo.after_nil]
  after_results
  refine (congrArg (fun z => transpose S6x24x96x160 [0, 1, 3, 2] z transposes_S6x24x160x96_S6x24x96x160_0_1_3_2) ((Pipeline.withArrays_arr spec0 arrays c _ _ 5).trans (final5 m c A))).trans (funext fun y => ?_)
  pointwise [ksT, ksR]
theorem tail9 : Pipeline.afterTail₀ cfgs (dats m) 0 (V0 m) [hostOps1] c main_v9 = vsR V F := by
  unfold Pipeline.afterTail₀
  show StableHlo.after hostOps1 _ _ = _
  unfold hostOps1
  repeat rw [StableHlo.after_cons]
  rw [StableHlo.after_nil]
  after_results
  refine (congrArg (fun z => transpose S6x24x96x160 [0, 1, 3, 2] z transposes_S6x24x160x96_S6x24x96x160_0_1_3_2) ((Pipeline.withArrays_arr spec0 arrays c _ _ 6).trans (final6 m c A))).trans (funext fun y => ?_)
  pointwise [vsT, vsR]
theorem tail6 : Pipeline.afterTail₀ cfgs (dats m) 0 (V0 m) [hostOps1] c main_v6 = codeR Q := by
  unfold Pipeline.afterTail₀
  show StableHlo.after hostOps1 _ _ = _
  unfold hostOps1
  repeat rw [StableHlo.after_cons]
  rw [StableHlo.after_nil]
  after_results
  refine (congrArg (fun z => transpose S6x256x24x160 [0, 3, 1, 2] z transposes_S6x24x160x256_S6x256x24x160_0_3_1_2) ((Pipeline.withArrays_arr spec0 arrays c _ _ 7).trans (final7 m c A))).trans (funext fun y => ?_)
  pointwise [codeT, codeR]
theorem tail10 : Pipeline.afterTail₀ cfgs (dats m) 0 (V0 m) [hostOps1] c main_v10 = scaleR Q := by
  unfold Pipeline.afterTail₀
  show StableHlo.after hostOps1 _ _ = _
  unfold hostOps1
  repeat rw [StableHlo.after_cons]
  rw [StableHlo.after_nil]
  after_results
  refine (congrArg (fun z => transpose S6x256x24 [0, 2, 1] z transposes_S6x24x256_S6x256x24_0_2_1) ((Pipeline.withArrays_arr spec0 arrays c _ _ 8).trans (final8 m c A))).trans (funext fun y => ?_)
  pointwise [scaleT, scaleR]
theorem tail7 : Pipeline.afterTail₀ cfgs (dats m) 0 (V0 m) [hostOps1] c main_v7 = codeR K := by
  unfold Pipeline.afterTail₀
  show StableHlo.after hostOps1 _ _ = _
  unfold hostOps1
  repeat rw [StableHlo.after_cons]
  rw [StableHlo.after_nil]
  after_results
  refine (congrArg (fun z => transpose S6x256x24x160 [0, 3, 1, 2] z transposes_S6x24x160x256_S6x256x24x160_0_3_1_2) ((Pipeline.withArrays_arr spec0 arrays c _ _ 9).trans (final9 m c A))).trans (funext fun y => ?_)
  pointwise [codeT, codeR]
theorem tail11 : Pipeline.afterTail₀ cfgs (dats m) 0 (V0 m) [hostOps1] c main_v11 = scaleR K := by
  unfold Pipeline.afterTail₀
  show StableHlo.after hostOps1 _ _ = _
  unfold hostOps1
  repeat rw [StableHlo.after_cons]
  rw [StableHlo.after_nil]
  after_results
  refine (congrArg (fun z => transpose S6x256x24 [0, 2, 1] z transposes_S6x24x256_S6x256x24_0_2_1) ((Pipeline.withArrays_arr spec0 arrays c _ _ 10).trans (final10 m c A))).trans (funext fun y => ?_)
  pointwise [scaleT, scaleR]
end

end Cert.Proof
-- ==== Proof.RefTerms.lean ====
/- The arrays of the reference, each as a function of the arrays it is made from: the scales and the clipped quotients of the
   quantiser, the log gates, their running sums, the masked scores, the softmax over the slots and the three results. -/
module

public import proofs.«01_k».proof.Proof.Gen.ReferenceIdeal.Frame
public import Idealize.ShloMosaic.Lib.Pointwise

@[expose] public section

set_option maxRecDepth 16384

noncomputable section

namespace Cert.Proof.Ref

open Idealize.ShloMosaic Cert.ReferenceIdeal Cert.ReferenceIdeal.Gen

/-- The greatest absolute value of each row. -/
def amaxA (x : FVec Ideal S6x256x24x160 .bf16) : FVec Ideal S6x256x24 .f32 :=
  Host.reduce FloatOps.maximumf (Host.absf (extf .f32 x bitsLt_bf16_f32)) (constant S_ .f32 0xFF800000#32)
    reducesTo_S6x256x24x160_S6x256x24_d3 h_S_

/-- The natural logarithm of 2, at every row. -/
def log2A : FVec Ideal S6x256x24 .f32 :=
  broadcastInDim S6x256x24 ![] bcast_S_S6x256x24 (Host.log (constant (F := Ideal) S_ .f32 0x40000000#32))

/-- The exponent of each row's scale. -/
def expA (x : FVec Ideal S6x256x24x160 .bf16) : FVec Ideal S6x256x24 .f32 :=
  select (cmpf .oeq (amaxA x) (broadcastInDim S6x256x24 ![] bcast_S_S6x256x24 (constant (F := Ideal) S_ .f32 0x00000000#32)))
    (broadcastInDim S6x256x24 ![] bcast_S_S6x256x24 (constant (F := Ideal) S_ .f32 0x00000000#32))
    (addf (Host.floor (Host.divf (Host.log (mulf (amaxA x)
      (broadcastInDim S6x256x24 ![] bcast_S_S6x256x24 (constant (F := Ideal) S_ .f32 0x3B124925#32)))) log2A))
      (broadcastInDim S6x256x24 ![] bcast_S_S6x256x24 (constant (F := Ideal) S_ .f32 0x3F800000#32)))

/-- Each row's scale. -/
def scaleA (x : FVec Ideal S6x256x24x160 .bf16) : FVec Ideal S6x256x24 .f32 := Host.exp (mulf (expA x) log2A)

/-- One over each row's scale. -/
def invA (x : FVec Ideal S6x256x24x160 .bf16) : FVec Ideal S6x256x24 .f32 := Host.exp (mulf (Host.negf (expA x)) log2A)

/-- A number per row, at every element of the row. -/
def rowA (s : FVec Ideal S6x256x24 .f32) : FVec Ideal S6x256x24x160 .f32 :=
  broadcastInDim S6x256x24x160 ![0, 1, 2, 3] bcast_S6x256x24x1_S6x256x24x160_0_1_2_3
    (broadcastInDim S6x256x24x1 ![0, 1, 2] bcast_S6x256x24_S6x256x24x1_0_1_2 s)

/-- The array over its scales, clipped to the range of the eight-bit format. -/
def clipA (x : FVec Ideal S6x256x24x160 .bf16) : FVec Ideal S6x256x24x160 .f32 :=
  minimumf (broadcastInDim S6x256x24x160 ![] bcast_S_S6x256x24x160 (constant (F := Ideal) S_ .f32 0x43E00000#32))
    (maximumf (broadcastInDim S6x256x24x160 ![] bcast_S_S6x256x24x160 (constant (F := Ideal) S_ .f32 0xC3E00000#32))
      (mulf (extf .f32 x bitsLt_bf16_f32) (rowA (invA x))))

/-- Zero at every gate. -/
def zeroA : FVec Ideal S6x256x24x96 .f32 := broadcastInDim S6x256x24x96 ![] bcast_S_S6x256x24x96 (constant (F := Ideal) S_ .f32 0x00000000#32)

/-- `log (1 + exp x)`. -/
def softplusA (x : FVec Ideal S6x256x24x96 .f32) : FVec Ideal S6x256x24x96 .f32 :=
  select (cmpf .une (subf x zeroA) (subf x zeroA)) (addf x zeroA)
    (addf (maximumf x zeroA) (Host.log1p (Host.exp (Host.negf (Host.absf (subf x zeroA))))))

/-- The log forget gates. -/
def laA (f : FVec Ideal S6x256x24x96 .bf16) : FVec Ideal S6x256x24x96 .f32 :=
  Host.divf (Host.negf (softplusA (Host.negf (extf .f32 f bitsLt_bf16_f32))))
    (broadcastInDim S6x256x24x96 ![] bcast_S_S6x256x24x96 (constant (F := Ideal) S_ .f32 0x41000000#32))

/-- The write weights. -/
def gwA (f : FVec Ideal S6x256x24x96 .bf16) : FVec Ideal S6x256x24x96 .f32 := Host.negf (Host.expm1 (laA f))

/-- The causal mask: row `t`, column `s` holds whether `s ≤ t`. -/
def trilA : IVec S256x256 1 :=
  select (cmpi .sge (addi (iotaInDim S256x256 32 0) (broadcastInDim S256x256 ![] bcast_S_S256x256 (constantI S_ 32 0#32)))
    (iotaInDim S256x256 32 1)) (broadcastInDim S256x256 ![] bcast_S_S256x256 (constantI S_ 1 1#1))
    (broadcastInDim S256x256 ![] bcast_S_S256x256 (constantI S_ 1 0#1))

/-- The running sums of the log forget gates. -/
def cBA (f : FVec Ideal S6x256x24x96 .bf16) : FVec Ideal S6x256x24x96 .f32 :=
  transpose S6x256x24x96 [0, 3, 1, 2]
    (Host.dotGeneral (F := Ideal) dot_S6x256x24x96_S256x256_S6x24x96x256_1_1_023_0_n_n (some .fp32) (laA f) (uitofp (F := Ideal) .f32 trilA : FVec Ideal S256x256 .f32))
    transposes_S6x24x96x256_S6x256x24x96_0_3_1_2

/-- The write weights over the decays. -/
def gA (f : FVec Ideal S6x256x24x96 .bf16) : FVec Ideal S6x256x24x96 .f32 := mulf (Host.exp (Host.negf (cBA f))) (gwA f)

/-- The scores of the tokens, from codes and scales. -/
def ovA (qc kc : FVec Ideal S6x256x24x160 .f32) (qs ks : FVec Ideal S6x256x24 .f32) : FVec Ideal S6x24x256x256 .f32 :=
  mulf (mulf (Host.dotGeneral (F := Ideal) dot_S6x256x24x160_S6x256x24x160_S6x24x256x256_3_3_1_1_02_02 none qc kc)
    (broadcastInDim S6x24x256x256 ![0, 1, 2, 3] bcast_S6x24x256x1_S6x24x256x256_0_1_2_3
      (broadcastInDim S6x24x256x1 ![0, 1, 2] bcast_S6x24x256_S6x24x256x1_0_1_2
        (transpose S6x24x256 [0, 2, 1] qs transposes_S6x256x24_S6x24x256_0_2_1))))
    (broadcastInDim S6x24x256x256 ![0, 1, 2, 3] bcast_S6x24x1x256_S6x24x256x256_0_1_2_3
      (broadcastInDim S6x24x1x256 ![0, 1, 3] bcast_S6x24x256_S6x24x1x256_0_1_3
        (transpose S6x24x256 [0, 2, 1] ks transposes_S6x256x24_S6x24x256_0_2_1)))

/-- An array of token pairs with zero where the second token is later. -/
def maskA (a : FVec Ideal S6x24x256x256 .f32) : FVec Ideal S6x24x256x256 .f32 :=
  select (broadcastInDim S6x24x256x256 ![2, 3] bcast_S256x256_S6x24x256x256_2_3 trilA) a
    (broadcastInDim S6x24x256x256 ![] bcast_S_S6x24x256x256 (constant (F := Ideal) S_ .f32 0x00000000#32))

/-- The scores of the slots. -/
def zzA (f : FVec Ideal S6x256x24x96 .bf16) (a : FVec Ideal S6x24x256x256 .f32) : FVec Ideal S6x256x24x96 .f32 :=
  Host.divf (mulf (Host.exp (cBA f)) (transpose S6x256x24x96 [0, 3, 1, 2]
    (Host.dotGeneral (F := Ideal) dot_S6x256x24x96_S6x24x256x256_S6x24x96x256_1_3_3_2_02_01 (some .fp32) (gA f) (maskA a))
    transposes_S6x24x96x256_S6x256x24x96_0_3_1_2))
    (broadcastInDim S6x256x24x96 ![] bcast_S_S6x256x24x96 (Host.sqrt (constant (F := Ideal) S_ .f32 0x43200000#32)))

/-- A number per token, at every slot. -/
def slotA (s : FVec Ideal S6x256x24 .f32) : FVec Ideal S6x256x24x96 .f32 :=
  broadcastInDim S6x256x24x96 ![0, 1, 2, 3] bcast_S6x256x24x1_S6x256x24x96_0_1_2_3
    (broadcastInDim S6x256x24x1 ![0, 1, 2] bcast_S6x256x24_S6x256x24x1_0_1_2 s)

/-- The exponentials of the scores, less the greatest score of the token. -/
def expzA (z : FVec Ideal S6x256x24x96 .f32) : FVec Ideal S6x256x24x96 .f32 :=
  Host.exp (subf z (slotA (maximumf (broadcastInDim S6x256x24 ![] bcast_S_S6x256x24 (constant (F := Ideal) S_ .f32 0xFF800000#32))
    (Host.reduce FloatOps.maximumf z (constant S_ .f32 0xFF800000#32) reducesTo_S6x256x24x96_S6x256x24_d3 h_S_))))

/-- The softmax over the slots. -/
def ppA (z : FVec Ideal S6x256x24x96 .f32) : FVec Ideal S6x256x24x96 .f32 :=
  Host.divf (expzA z) (slotA (Host.reduceAdd (expzA z) (constant S_ .f32 0x00000000#32) reducesTo_S6x256x24x96_S6x256x24_d3 h_S_))

/-- The weights of the tokens in the output. -/
def pwA (f : FVec Ideal S6x256x24x96 .bf16) (a : FVec Ideal S6x24x256x256 .f32) : FVec Ideal S6x24x256x256 .f32 :=
  maskA (Host.dotGeneral (F := Ideal) dot_S6x256x24x96_S6x256x24x96_S6x24x256x256_3_3_1_1_02_02 (some .fp32)
    (mulf (ppA (zzA f a)) (Host.exp (cBA f))) (gA f))

/-- The output. -/
def oA (v : FVec Ideal S6x256x24x160 .bf16) (f : FVec Ideal S6x256x24x96 .bf16) (a : FVec Ideal S6x24x256x256 .f32) :
    FVec Ideal S6x256x24x160 .bf16 :=
  truncf .bf16 (transpose S6x256x24x160 [0, 3, 1, 2]
    (Host.dotGeneral (F := Ideal) dot_S6x256x24x160_S6x24x256x256_S6x24x160x256_1_3_3_2_02_01 (some .fp32)
      (extf .f32 v bitsLt_bf16_f32) (pwA f a)) transposes_S6x24x160x256_S6x256x24x160_0_3_1_2) bitsLt_bf16_f32

/-- The weights of the tokens in the final state of the slots. -/
def wlA (f : FVec Ideal S6x256x24x96 .bf16) : FVec Ideal S6x256x24x96 .f32 :=
  mulf (Host.exp (subf (broadcastInDim S6x256x24x96 ![0, 1, 2, 3] bcast_S6x1x24x96_S6x256x24x96_0_1_2_3
    (extractStridedSlice S6x1x24x96 ![0, 255, 0, 0] (cBA f) slices_S6x256x24x96_S6x1x24x96_0_255_0_0)) (cBA f))) (gwA f)

/-- The final state of the slots, from the tokens' rows. -/
def slotsA (f : FVec Ideal S6x256x24x96 .bf16) (x : FVec Ideal S6x256x24x160 .f32) : FVec Ideal S6x24x96x160 .f32 :=
  Host.dotGeneral (F := Ideal) dot_S6x256x24x96_S6x256x24x160_S6x24x96x160_1_1_3_3_02_02 (some .fp32) (wlA f) x

end Cert.Proof.Ref
-- ==== Proof.RefRun.lean ====
/- What the reference's host lines leave in the arrays it returns, as the arrays of `RefTerms`. -/
module

public import proofs.«01_k».proof.Proof.RefTerms
public import Idealize.ShloMosaic.Lib.StableHlo.RunRead
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.Ref

open Idealize.ShloMosaic Idealize.ShloMosaic.TcCoe Cert.ReferenceIdeal Cert.ReferenceIdeal.Gen

variable (m : (ℓ : Loc nD τ sig) → Buf (Elt Ideal) ℓ) (c : Dev nD)

/-- The scales of the queries. -/
theorem V_20 : Gen.V m c main_v20 = scaleA (m ((c : Thread nD τ).loc main_arg0)) := by
  show StableHlo.after _ _ _ = _
  simp only [List.flatten_cons, List.flatten_nil, List.append_nil]
  after_reads_simp
  simp -implicitDefEqProofs only [StableHlo.TRef.toBuf, StableHlo.TRef.ofBuf, cast_cast, cast_eq]
  rfl

/-- The scales of the keys. -/
theorem V_51 : Gen.V m c main_v51 = scaleA (m ((c : Thread nD τ).loc main_arg1)) := by
  show StableHlo.after _ _ _ = _
  simp only [List.flatten_cons, List.flatten_nil, List.append_nil]
  after_reads_simp
  simp -implicitDefEqProofs only [StableHlo.TRef.toBuf, StableHlo.TRef.ofBuf, cast_cast, cast_eq]
  rfl

/-- The clipped queries. -/
theorem V_30 : Gen.V m c main_v30 = clipA (m ((c : Thread nD τ).loc main_arg0)) := by
  show StableHlo.after _ _ _ = _
  simp only [List.flatten_cons, List.flatten_nil, List.append_nil]
  after_reads_simp
  simp -implicitDefEqProofs only [StableHlo.TRef.toBuf, StableHlo.TRef.ofBuf, cast_cast, cast_eq]
  rfl

/-- The clipped keys. -/
theorem V_61 : Gen.V m c main_v61 = clipA (m ((c : Thread nD τ).loc main_arg1)) := by
  show StableHlo.after _ _ _ = _
  simp only [List.flatten_cons, List.flatten_nil, List.append_nil]
  after_reads_simp
  simp -implicitDefEqProofs only [StableHlo.TRef.toBuf, StableHlo.TRef.ofBuf, cast_cast, cast_eq]
  rfl

/-- The host lines after the cast. -/
abbrev tailOps : List (List (HloOp τ sig (Elt Ideal))) :=
  [hostOps1, hostOps1_1, hostOps1_2, hostOps1_3, hostOps1_4, hostOps1_5, hostOps1_6, hostOps1_7, hostOps1_8]

variable (W : Valuation τ sig (Elt Ideal))

/-- The output. -/
theorem tail_115 : StableHlo.after (List.flatten tailOps) W (Proc.devRef .tc main_v115) =
    oA (W (Proc.devRef .tc main_arg2)) (W (Proc.devRef .tc main_arg3)) (ovA (W (Proc.devRef .tc main_v62_2)) (W (Proc.devRef .tc main_v62_3)) (W (Proc.devRef .tc main_v20)) (W (Proc.devRef .tc main_v51))) := by
  simp only [List.flatten_cons, List.flatten_nil, List.append_nil]
  after_reads_simp
  simp -implicitDefEqProofs only [StableHlo.TRef.toBuf, StableHlo.TRef.ofBuf, cast_cast, cast_eq]
  rfl

/-- The final state of the slots' keys. -/
theorem tail_121 : StableHlo.after (List.flatten tailOps) W (Proc.devRef .tc main_v121) =
    slotsA (W (Proc.devRef .tc main_arg3)) (mulf (W (Proc.devRef .tc main_v62_3)) (rowA (W (Proc.devRef .tc main_v51)))) := by
  simp only [List.flatten_cons, List.flatten_nil, List.append_nil]
  after_reads_simp
  simp -implicitDefEqProofs only [StableHlo.TRef.toBuf, StableHlo.TRef.ofBuf, cast_cast, cast_eq]
  rfl

/-- The final state of the slots' values. -/
theorem tail_122 : StableHlo.after (List.flatten tailOps) W (Proc.devRef .tc main_v122) =
    slotsA (W (Proc.devRef .tc main_arg3)) (extf .f32 (W (Proc.devRef .tc main_arg2)) bitsLt_bf16_f32) := by
  simp only [List.flatten_cons, List.flatten_nil, List.append_nil]
  after_reads_simp
  simp -implicitDefEqProofs only [StableHlo.TRef.toBuf, StableHlo.TRef.ofBuf, cast_cast, cast_eq]
  rfl

/-- The codes of the queries stay. -/
theorem tail_62_0 : StableHlo.after (List.flatten tailOps) W (Proc.devRef .tc main_v62_0) = W (Proc.devRef .tc main_v62_0) := by
  simp only [List.flatten_cons, List.flatten_nil, List.append_nil]
  after_reads_simp

/-- The codes of the keys stay. -/
theorem tail_62_1 : StableHlo.after (List.flatten tailOps) W (Proc.devRef .tc main_v62_1) = W (Proc.devRef .tc main_v62_1) := by
  simp only [List.flatten_cons, List.flatten_nil, List.append_nil]
  after_reads_simp

/-- The scales of the queries stay. -/
theorem tail_20 : StableHlo.after (List.flatten tailOps) W (Proc.devRef .tc main_v20) = W (Proc.devRef .tc main_v20) := by
  simp only [List.flatten_cons, List.flatten_nil, List.append_nil]
  after_reads_simp

/-- The scales of the keys stay. -/
theorem tail_51 : StableHlo.after (List.flatten tailOps) W (Proc.devRef .tc main_v51) = W (Proc.devRef .tc main_v51) := by
  simp only [List.flatten_cons, List.flatten_nil, List.append_nil]
  after_reads_simp

/-- The one block of each array the cast reads is the whole array. -/
theorem idx : ∀ t : Fin grid0.N,
    (win0_0.index t 0 = 0 ∧ win0_0.index t 1 = 0 ∧ win0_0.index t 2 = 0 ∧ win0_0.index t 3 = 0) ∧
    (win0_1.index t 0 = 0 ∧ win0_1.index t 1 = 0 ∧ win0_1.index t 2 = 0 ∧ win0_1.index t 3 = 0) := by
  decide +kernel

/-- The block of clipped queries. -/
theorem blk_0 (j : S6x256x24x160.Idx) : iblk m c 0 t0_0 j = clipA (m ((c : Thread nD τ).loc main_arg0)) j := by
  rw [← V_30]
  blk_point [iblk, V, idx t0_0]

/-- The block of clipped keys. -/
theorem blk_1 (j : S6x256x24x160.Idx) : iblk m c 1 t0_0 j = clipA (m ((c : Thread nD τ).loc main_arg1)) j := by
  rw [← V_61]
  blk_point [iblk, V, idx t0_0]

/-- The codes of the queries. -/
theorem cast_2 : (dats m 0 c).arrAt 2 (cfgs 0).N = (clipA (m ((c : Thread nD τ).loc main_arg0)) : S6x256x24x160.Idx → EReal) := by
  refine (dats m 0 c).arrAt_eq_of_after_last 2 t0_0 (by decide +kernel) _ fun j => ?_
  blk_simp
  rw [after0_2]
  unfold outsAt0
  dsimp only
  frame_out
  rw [read_unread_whole]
  pointwise [k0_pay1]
  exact blk_0 m c _

/-- The codes of the keys. -/
theorem cast_3 : (dats m 0 c).arrAt 3 (cfgs 0).N = (clipA (m ((c : Thread nD τ).loc main_arg1)) : S6x256x24x160.Idx → EReal) := by
  refine (dats m 0 c).arrAt_eq_of_after_last 3 t0_0 (by decide +kernel) _ fun j => ?_
  blk_simp
  rw [after0_3]
  frame_out
  rw [read_unread_whole]
  pointwise [k0_pay2]
  exact blk_1 m c _

/-- The codes of the queries, widened. -/
theorem cast_4 : (dats m 0 c).arrAt 4 (cfgs 0).N = (clipA (m ((c : Thread nD τ).loc main_arg0)) : S6x256x24x160.Idx → EReal) := by
  refine (dats m 0 c).arrAt_eq_of_after_last 4 t0_0 (by decide +kernel) _ fun j => ?_
  blk_simp
  rw [after0_4]
  frame_out
  rw [read_unread_whole]
  pointwise [k0_pay3, k0_pay1]
  exact blk_0 m c _

/-- The codes of the keys, widened. -/
theorem cast_5 : (dats m 0 c).arrAt 5 (cfgs 0).N = (clipA (m ((c : Thread nD τ).loc main_arg1)) : S6x256x24x160.Idx → EReal) := by
  refine (dats m 0 c).arrAt_eq_of_after_last 5 t0_0 (by decide +kernel) _ fun j => ?_
  blk_simp
  rw [after0_5]
  frame_out
  rw [read_unread_whole]
  pointwise [k0_pay4, k0_pay2]
  exact blk_1 m c _

theorem arrays : Function.Injective (Pipeline.arrRef spec0) := by decide +kernel

/-- The scores of the tokens in the reference, from its arguments. -/
def scores (q k : FVec Ideal S6x256x24x160 .bf16) : FVec Ideal S6x24x256x256 .f32 := ovA (clipA q) (clipA k) (scaleA q) (scaleA k)

/-- A buffer the cast does not touch holds after it what it held before. -/
theorem kept (b : Ref sig .tc) (h : ∀ w, Pipeline.arrRef spec0 w ≠ b) :
    Pipeline.withArrays spec0 c (V0 m c) (fun w => (dats m 0 c).arrAt w (cfgs 0).N) (Proc.devRef .tc b) = Gen.V m c b :=
  Pipeline.withArrays_of_ne _ c (V0 m c) _ b h

/-- The array of window `w` after the cast. -/
theorem written (w : Fin 6) : Pipeline.withArrays spec0 c (V0 m c) (fun w => (dats m 0 c).arrAt w (cfgs 0).N) (Proc.devRef .tc (Pipeline.arrRef spec0 w)) =
    (dats m 0 c).arrAt w (cfgs 0).N :=
  Pipeline.withArrays_arr spec0 arrays c _ _ w

theorem w_20 : Pipeline.withArrays spec0 c (V0 m c) (fun w => (dats m 0 c).arrAt w (cfgs 0).N) (Proc.devRef .tc main_v20) = scaleA (m ((c : Thread nD τ).loc main_arg0)) :=
  (kept m c main_v20 (by decide)).trans (V_20 m c)
theorem w_51 : Pipeline.withArrays spec0 c (V0 m c) (fun w => (dats m 0 c).arrAt w (cfgs 0).N) (Proc.devRef .tc main_v51) = scaleA (m ((c : Thread nD τ).loc main_arg1)) :=
  (kept m c main_v51 (by decide)).trans (V_51 m c)
theorem w_2 : Pipeline.withArrays spec0 c (V0 m c) (fun w => (dats m 0 c).arrAt w (cfgs 0).N) (Proc.devRef .tc main_v62_2) = clipA (m ((c : Thread nD τ).loc main_arg0)) :=
  (written m c 4).trans (cast_4 m c)
theorem w_3 : Pipeline.withArrays spec0 c (V0 m c) (fun w => (dats m 0 c).arrAt w (cfgs 0).N) (Proc.devRef .tc main_v62_3) = clipA (m ((c : Thread nD τ).loc main_arg1)) :=
  (written m c 5).trans (cast_5 m c)

/-- The output of the reference. -/
theorem res_115 : Pipeline.afterTail₀ cfgs (dats m) 0 (V0 m) tailOps c main_v115 = oA (m ((c : Thread nD τ).loc main_arg2)) (m ((c : Thread nD τ).loc main_arg3)) (scores (m ((c : Thread nD τ).loc main_arg0)) (m ((c : Thread nD τ).loc main_arg1))) := by
  unfold Pipeline.afterTail₀
  refine (tail_115 _).trans ?_
  rw [w_2, w_3, w_20, w_51, (kept m c main_arg2 (by decide)), (kept m c main_arg3 (by decide))]
  rfl

/-- The slots' keys of the reference. -/
theorem res_121 : Pipeline.afterTail₀ cfgs (dats m) 0 (V0 m) tailOps c main_v121 = slotsA (m ((c : Thread nD τ).loc main_arg3)) (mulf (clipA (m ((c : Thread nD τ).loc main_arg1))) (rowA (scaleA (m ((c : Thread nD τ).loc main_arg1))))) := by
  unfold Pipeline.afterTail₀
  refine (tail_121 _).trans ?_
  rw [w_3, w_51, (kept m c main_arg3 (by decide))]
  rfl

/-- The slots' values of the reference. -/
theorem res_122 : Pipeline.afterTail₀ cfgs (dats m) 0 (V0 m) tailOps c main_v122 = slotsA (m ((c : Thread nD τ).loc main_arg3)) (extf .f32 (m ((c : Thread nD τ).loc main_arg2)) bitsLt_bf16_f32) := by
  unfold Pipeline.afterTail₀
  refine (tail_122 _).trans ?_
  rw [(kept m c main_arg2 (by decide)), (kept m c main_arg3 (by decide))]
  rfl

/-- The codes of the queries. -/
theorem res_62_0 : Pipeline.afterTail₀ cfgs (dats m) 0 (V0 m) tailOps c main_v62_0 = (clipA (m ((c : Thread nD τ).loc main_arg0)) : S6x256x24x160.Idx → EReal) := by
  unfold Pipeline.afterTail₀
  exact (tail_62_0 _).trans ((written m c 2).trans (cast_2 m c))

/-- The codes of the keys. -/
theorem res_62_1 : Pipeline.afterTail₀ cfgs (dats m) 0 (V0 m) tailOps c main_v62_1 = (clipA (m ((c : Thread nD τ).loc main_arg1)) : S6x256x24x160.Idx → EReal) := by
  unfold Pipeline.afterTail₀
  exact (tail_62_1 _).trans ((written m c 3).trans (cast_3 m c))

/-- The scales of the queries. -/
theorem res_20 : Pipeline.afterTail₀ cfgs (dats m) 0 (V0 m) tailOps c main_v20 = scaleA (m ((c : Thread nD τ).loc main_arg0)) := by
  unfold Pipeline.afterTail₀
  exact (tail_20 _).trans (w_20 m c)

/-- The scales of the keys. -/
theorem res_51 : Pipeline.afterTail₀ cfgs (dats m) 0 (V0 m) tailOps c main_v51 = scaleA (m ((c : Thread nD τ).loc main_arg1)) := by
  unfold Pipeline.afterTail₀
  exact (tail_51 _).trans (w_51 m c)

end Cert.Proof.Ref
-- ==== Proof.RefGates.lean ====
/- What the reference makes of real forget logits: the log gates, the write weights, the running sums, the causal mask, and the
   weights of the tokens in the final state of the slots. -/
module

public import proofs.«01_k».proof.Proof.RefTerms
public import proofs.«01_k».proof.Proof.RealArray
public import proofs.«01_k».proof.Proof.HeadMath

@[expose] public section

set_option maxRecDepth 16384

noncomputable section

namespace Cert.Proof.Ref

open Idealize.ShloMosaic Finset Cert.ReferenceIdeal Cert.ReferenceIdeal.Gen

theorem eight32 : Ideal.ofBits .f32 0x41000000#32 = ((8 : ℝ) : EReal) := by
  simp [Ideal.ofBits, Ideal.ieee, -EReal.coe_mul]; norm_num

theorem abs_coe' (r : ℝ) : max (r : EReal) (-(r : EReal)) = ((|r| : ℝ) : EReal) := by
  rw [← EReal.coe_neg]; exact (EReal.coe_strictMono.monotone.map_max).symm

/-- The softplus in its stable form. -/
theorem softplus_real (f : ℝ) : max (-f) 0 + Real.log (1 + Real.exp (-|(-f)|)) = Real.log (1 + Real.exp (-f)) := by
  rcases le_or_gt 0 f with h | h
  · rw [max_eq_right (by linarith), abs_neg, abs_of_nonneg h, zero_add]
  · rw [max_eq_left (by linarith), abs_neg, abs_of_neg h, neg_neg, show 1 + Real.exp (-f) = Real.exp (-f) * (1 + Real.exp f) by
        rw [mul_add, mul_one, ← Real.exp_add, neg_add_cancel, Real.exp_zero, add_comm],
      Real.log_mul (Real.exp_pos _).ne' (by positivity), Real.log_exp]

/-- The causal mask. -/
theorem trilA_at (t s : Fin 256) : trilA (ix2 t s) = if s.val ≤ t.val then 1#1 else 0#1 := by
  unfold trilA
  pointwise
  have e : ∀ a b : Fin 256, Scalar.select (IntOp.cmpi .sge (IntOp.addi (BitVec.ofNat 32 a.val) 0#32) (BitVec.ofNat 32 b.val)) 1#1 0#1
      = if b.val ≤ a.val then 1#1 else 0#1 := fun a b => by
    have h1 : (BitVec.ofNat 32 a.val).toInt = a.val := by
      rw [BitVec.toInt_ofNat']; simp only [Int.bmod_def]; omega
    have h2 : (BitVec.ofNat 32 b.val).toInt = b.val := by
      rw [BitVec.toInt_ofNat']; simp only [Int.bmod_def]; omega
    have h3 : IntOp.addi (BitVec.ofNat 32 a.val) 0#32 = BitVec.ofNat 32 a.val := BitVec.add_zero _
    rw [h3]
    by_cases h : b.val ≤ a.val
    · rw [if_pos h]
      simp [IntOp.cmpi, Scalar.select, BitVec.sle, h1, h2, h]
    · rw [if_neg h]
      simp [IntOp.cmpi, Scalar.select, BitVec.sle, h1, h2, h]
  exact e t s

variable {f : FVec Ideal S6x256x24x96 .bf16} {F : ℕ → ℕ → ℕ → ℕ → ℝ}
  (hf : ∀ (b : Fin 6) (t : Fin 256) (h : Fin 24) (j : Fin 96), f (ix4 b t h j) = ((F b h j t : ℝ) : EReal))

include hf

/-- The log gates. -/
theorem laA_at (b : Fin 6) (t : Fin 256) (h : Fin 24) (j : Fin 96) : laA f (ix4 b t h j) = ((la (F b h) j t : ℝ) : EReal) := by
  unfold laA softplusA zeroA
  pointwise
  rw [hf]
  rw [if_neg (fun h => h rfl), eight32, Ideal.div_coe (by norm_num), Ideal.absf_def, ← EReal.coe_neg, abs_coe',
    ← EReal.coe_neg, Ideal.exp_coe, Ideal.log1p, ← EReal.coe_one, ← EReal.coe_add, Ideal.log_coe, if_neg (not_le.2 (by positivity)),
    ← EReal.coe_zero, ← EReal.coe_strictMono.monotone.map_max, ← EReal.coe_add, ← EReal.coe_neg, ← EReal.coe_mul, softplus_real, la]
  congr 1; ring

/-- The write weights. -/
theorem gwA_at (b : Fin 6) (t : Fin 256) (h : Fin 24) (j : Fin 96) : gwA f (ix4 b t h j) = ((gw (F b h) j t : ℝ) : EReal) := by
  unfold gwA
  pointwise
  rw [laA_at hf]
  rw [Ideal.exp_coe, ← EReal.coe_one, ← EReal.coe_sub, ← EReal.coe_neg, gw]
  congr 1; ring

/-- The running sums. -/
theorem cBA_at (b : Fin 6) (t : Fin 256) (h : Fin 24) (j : Fin 96) : cBA f (ix4 b t h j) = ((cB (F b h) j t : ℝ) : EReal) := by
  unfold cBA
  pointwise
  simp only [laA_at hf, trilA_at]
  have e : ∀ x : Fin 256, ((la (F b h) j x : ℝ) : EReal) * FloatOps.uitofp (F := Ideal) .f32 (if x.val ≤ t.val then 1#1 else 0#1)
      = (((if x.val ≤ t.val then la (F b h) j x else 0 : ℝ)) : EReal) := fun x => by
    by_cases h : x.val ≤ t.val
    · rw [if_pos h, if_pos h]
      show _ * (((1#1 : BitVec 1).toNat : ℝ) : EReal) = _
      simp
    · rw [if_neg h, if_neg h]
      show _ * (((0#1 : BitVec 1).toNat : ℝ) : EReal) = _
      simp
  rw [sum_congr rfl fun x _ => e x, coe_sum 256 fun x => if x ≤ t.val then la (F b h) j x else 0, cB, ← sum_filter]
  refine congrArg _ (sum_congr ?_ fun _ _ => rfl)
  have := t.isLt
  ext x; simp only [mem_filter, mem_range]; omega

/-- The write weights over the decays. -/
theorem gA_at (b : Fin 6) (t : Fin 256) (h : Fin 24) (j : Fin 96) :
    gA f (ix4 b t h j) = ((Real.exp (-cB (F b h) j t) * gw (F b h) j t : ℝ) : EReal) := by
  unfold gA
  pointwise
  rw [cBA_at hf, gwA_at hf]
  rw [← EReal.coe_neg, Ideal.exp_coe, ← EReal.coe_mul]

/-- The weights of the tokens in the final state. -/
theorem wlA_at (b : Fin 6) (t : Fin 256) (h : Fin 24) (j : Fin 96) : wlA f (ix4 b t h j) = ((wl (F b h) j t : ℝ) : EReal) := by
  unfold wlA
  pointwise
  simp only [cBA_at hf, gwA_at hf]
  rw [← EReal.coe_sub, Ideal.exp_coe, ← EReal.coe_mul]
  rfl

end Cert.Proof.Ref
-- ==== Proof.RefQuant.lean ====
/- What the quantiser of the reference gives on real rows: the scale `2 ^ qe` and the clipped quotient `qcode`. -/
module

public import proofs.«01_k».proof.Proof.RefTerms
public import proofs.«01_k».proof.Proof.Quant

@[expose] public section

set_option maxRecDepth 16384

noncomputable section

namespace Cert.Proof.Ref

open Idealize.ShloMosaic Finset Cert.ReferenceIdeal Cert.ReferenceIdeal.Gen

theorem two32 : Ideal.ofBits .f32 0x40000000#32 = ((2 : ℝ) : EReal) := by
  simp [Ideal.ofBits, Ideal.ieee, -EReal.coe_mul]; norm_num

/-- The natural logarithm of 2, at any row. -/
theorem log2A_at (b : Fin 6) (t : Fin 256) (h : Fin 24) : log2A (ix3 b t h) = ((Real.log 2 : ℝ) : EReal) := by
  unfold log2A
  pointwise
  rw [two32, Ideal.log_coe, if_neg (by norm_num)]

theorem exp_zlog2 (n : ℤ) : Real.exp ((n : ℝ) * Real.log 2) = (2 : ℝ) ^ n := by
  rw [← two_rpow, Real.rpow_intCast]

section Rows
variable (a l : FVec Ideal S6x256x24 .f32) (b : Fin 6) (t : Fin 256) (h : Fin 24)

/-- The exponent from a row's greatest magnitude. -/
theorem exponent_at {f : ℕ → ℝ} (ha : a (ix3 b t h) = ((amax f : ℝ) : EReal)) (hl : l (ix3 b t h) = ((Real.log 2 : ℝ) : EReal)) :
    select (cmpf .oeq a (broadcastInDim S6x256x24 ![] bcast_S_S6x256x24 (constant (F := Ideal) S_ .f32 0x00000000#32)))
    (broadcastInDim S6x256x24 ![] bcast_S_S6x256x24 (constant (F := Ideal) S_ .f32 0x00000000#32))
    (addf (Host.floor (Host.divf (Host.log (mulf a
      (broadcastInDim S6x256x24 ![] bcast_S_S6x256x24 (constant (F := Ideal) S_ .f32 0x3B124925#32)))) l))
      (broadcastInDim S6x256x24 ![] bcast_S_S6x256x24 (constant (F := Ideal) S_ .f32 0x3F800000#32))) (ix3 b t h) = (((qe f : ℝ) : ℝ) : EReal) := by
  pointwise
  rw [ha, hl, show Ideal.ofBits .f32 0x3B124925#32 = ((c448 : ℝ) : EReal) from c448_32, ← EReal.coe_mul]
  by_cases h0 : amax f = 0
  · rw [if_pos (by rw [h0]; rfl), qe, if_pos h0]; simp
  · rw [if_neg (fun h => h0 (EReal.coe_eq_zero.1 h)), qe, if_neg h0, Ideal.log_coe, if_neg (not_le.2 (y_pos h0)),
      Ideal.div_coe log2_pos.ne', ← EReal.coe_mul, mul_one_div]
    show ((((⌊Real.log (amax f * c448) / Real.log 2⌋ : ℤ) : ℝ) : ℝ) : EReal) + 1 = _
    rw [← EReal.coe_one, ← EReal.coe_add]
    push_cast
    rfl

/-- A power of two. -/
theorem power_at {n : ℤ} (ha : a (ix3 b t h) = (((n : ℝ) : ℝ) : EReal)) (hl : l (ix3 b t h) = ((Real.log 2 : ℝ) : EReal)) :
    Host.exp (mulf a l) (ix3 b t h) = (((2 : ℝ) ^ n : ℝ) : EReal) := by
  pointwise
  rw [ha, hl, ← EReal.coe_mul, Ideal.exp_coe, exp_zlog2]

/-- The reciprocal of a power of two. -/
theorem reciprocal_at {n : ℤ} (ha : a (ix3 b t h) = (((n : ℝ) : ℝ) : EReal)) (hl : l (ix3 b t h) = ((Real.log 2 : ℝ) : EReal)) :
    Host.exp (mulf (Host.negf a) l) (ix3 b t h) = (((2 : ℝ) ^ (-n) : ℝ) : EReal) := by
  pointwise
  rw [ha, hl, ← EReal.coe_neg, ← EReal.coe_mul, Ideal.exp_coe, ← Int.cast_neg, exp_zlog2]

end Rows

variable {x : FVec Ideal S6x256x24x160 .bf16} {X : ℕ → ℕ → ℕ → ℕ → ℝ}
  (hx : ∀ (b : Fin 6) (t : Fin 256) (h : Fin 24) (d : Fin 160), x (ix4 b t h d) = ((X b h t d : ℝ) : EReal))
include hx

/-- The greatest absolute value of a row. -/
theorem amaxA_at (b : Fin 6) (t : Fin 256) (h : Fin 24) : amaxA x (ix3 b t h) = ((amax (X b h t) : ℝ) : EReal) := by
  unfold amaxA
  pointwise
  simp only [hx]
  rw [show Ideal.ofBits .f32 4286578688#32 = (⊥ : EReal) by simp [Ideal.ofBits, Ideal.ieee]]
  simp only [Ideal.absf_def, abs_coe]
  exact fold_amax _

/-- The exponent of a row. -/
theorem expA_at (b : Fin 6) (t : Fin 256) (h : Fin 24) : expA x (ix3 b t h) = (((qe (X b h t) : ℝ) : ℝ) : EReal) :=
  exponent_at (amaxA x) log2A b t h (amaxA_at hx b t h) (log2A_at b t h)

/-- The scale of a row. -/
theorem scaleA_at (b : Fin 6) (t : Fin 256) (h : Fin 24) : scaleA x (ix3 b t h) = (((2 : ℝ) ^ qe (X b h t) : ℝ) : EReal) :=
  power_at (expA x) log2A b t h (expA_at hx b t h) (log2A_at b t h)

/-- One over the scale of a row. -/
theorem invA_at (b : Fin 6) (t : Fin 256) (h : Fin 24) : invA x (ix3 b t h) = (((2 : ℝ) ^ (-qe (X b h t)) : ℝ) : EReal) :=
  reciprocal_at (expA x) log2A b t h (expA_at hx b t h) (log2A_at b t h)

/-- The clipped quotient of an element. -/
theorem clipA_at (b : Fin 6) (t : Fin 256) (h : Fin 24) (d : Fin 160) : clipA x (ix4 b t h d) = ((qcode (X b h t) d : ℝ) : EReal) := by
  unfold clipA rowA
  pointwise
  rw [invA_at hx, hx]
  rw [show Ideal.ofBits .f32 1138753536#32 = ((448 : ℝ) : EReal) from pos448, show Ideal.ofBits .f32 3286237184#32 = ((-448 : ℝ) : EReal) from neg448,
    ← EReal.coe_mul, ← EReal.coe_strictMono.monotone.map_max, ← EReal.coe_strictMono.monotone.map_min]
  rfl

end Cert.Proof.Ref
-- ==== Proof.RefScores.lean ====
/- What the reference makes of the gates and of the tokens' scores: the scores of the slots, their softmax, the weights of the
   tokens, the output and the final state of the slots. -/
module

public import proofs.«01_k».proof.Proof.RefGates
public import proofs.«01_k».proof.Proof.RefQuant
public import proofs.«01_k».proof.Proof.Scores

@[expose] public section

set_option maxRecDepth 16384

noncomputable section

namespace Cert.Proof.Ref

open Idealize.ShloMosaic Finset Cert.ReferenceIdeal Cert.ReferenceIdeal.Gen

/-- The scores of the tokens. -/
theorem ovA_at {qc kc : FVec Ideal S6x256x24x160 .f32} {qs ks : FVec Ideal S6x256x24 .f32} {Q K : ℕ → ℕ → ℕ → ℕ → ℝ}
    (hqc : ∀ (b : Fin 6) (t : Fin 256) (h : Fin 24) (d : Fin 160), qc (ix4 b t h d) = ((qcode (Q b h t) d : ℝ) : EReal))
    (hkc : ∀ (b : Fin 6) (t : Fin 256) (h : Fin 24) (d : Fin 160), kc (ix4 b t h d) = ((qcode (K b h t) d : ℝ) : EReal))
    (hqs : ∀ (b : Fin 6) (t : Fin 256) (h : Fin 24), qs (ix3 b t h) = (((2 : ℝ) ^ qe (Q b h t) : ℝ) : EReal))
    (hks : ∀ (b : Fin 6) (t : Fin 256) (h : Fin 24), ks (ix3 b t h) = (((2 : ℝ) ^ qe (K b h t) : ℝ) : EReal))
    (b : Fin 6) (h : Fin 24) (t s : Fin 256) :
    ovA qc kc qs ks (ix4 b h t s) = ((Head.ov (fun d t => qhat (K b h t) d) (fun d t => qhat (Q b h t) d) s t : ℝ) : EReal) := by
  unfold ovA
  pointwise
  simp only [hqc, hkc, hqs, hks]
  rw [coe_dot 160 (fun d => qcode (Q b h t) d) fun d => qcode (K b h s) d, ← EReal.coe_mul, ← EReal.coe_mul, Head.ov, sum_mul, sum_mul]
  refine congrArg _ (sum_congr rfl fun d _ => ?_)
  unfold qhat
  ring

section Mask
variable {a : FVec Ideal S6x24x256x256 .f32}

/-- An array of token pairs, masked. -/
theorem maskA_at {A : ℕ → ℕ → ℕ → ℕ → ℝ} (ha : ∀ (b : Fin 6) (h : Fin 24) (t s : Fin 256), a (ix4 b h t s) = ((A b h s t : ℝ) : EReal))
    (b : Fin 6) (h : Fin 24) (t s : Fin 256) : maskA a (ix4 b h t s) = ((if s.val ≤ t.val then A b h s t else 0 : ℝ) : EReal) := by
  unfold maskA
  pointwise
  rw [trilA_at, ha]
  by_cases h1 : s.val ≤ t.val
  · simp [h1, Scalar.select]
  · simp [h1, Scalar.select]
end Mask

/-- A number per token, read at a slot. -/
theorem slotA_at (m : FVec Ideal S6x256x24 .f32) (b : Fin 6) (t : Fin 256) (h : Fin 24) (j : Fin 96) : slotA m (ix4 b t h j) = m (ix3 b t h) := by
  unfold slotA
  pointwise

/-- The exponential of a difference. -/
theorem exp_sub_at (z m : FVec Ideal S6x256x24x96 .f32) (i : S6x256x24x96.Idx) {Z M : ℝ} (hz : z i = ((Z : ℝ) : EReal)) (hm : m i = ((M : ℝ) : EReal)) :
    Host.exp (subf z m) i = ((Real.exp (Z - M) : ℝ) : EReal) := by
  show Ideal.exp (z i - m i) = _
  rw [hz, hm, ← EReal.coe_sub, Ideal.exp_coe]

/-- A quotient. -/
theorem div_at (z m : FVec Ideal S6x256x24x96 .f32) (i : S6x256x24x96.Idx) {Z M : ℝ} (hz : z i = ((Z : ℝ) : EReal)) (hm : m i = ((M : ℝ) : EReal)) (h0 : M ≠ 0) :
    Host.divf z m i = ((Z / M : ℝ) : EReal) := by
  show Ideal.div (z i) (m i) = _
  rw [hz, hm, Ideal.div_coe h0, ← EReal.coe_mul, mul_one_div]

section Slots
variable {z : FVec Ideal S6x256x24x96 .f32} {Z : ℕ → ℕ → ℕ → ℕ → ℝ}
  (hz : ∀ (b : Fin 6) (t : Fin 256) (h : Fin 24) (j : Fin 96), z (ix4 b t h j) = ((Z b h j t : ℝ) : EReal))
include hz

/-- The greatest of a token's scores, over reals. -/
theorem reduce_at (b : Fin 6) (t : Fin 256) (h : Fin 24) {M : ℝ}
    (hM : Finset.univ.fold max (⊥ : EReal) (fun j : Fin 96 => ((Z b h j t : ℝ) : EReal)) = (M : EReal)) :
    Host.reduce FloatOps.maximumf z (constant S_ .f32 0xFF800000#32) reducesTo_S6x256x24x96_S6x256x24_d3 h_S_ (ix3 b t h) = ((M : ℝ) : EReal) := by
  pointwise
  simp only [hz]
  rw [show Ideal.ofBits .f32 4286578688#32 = (⊥ : EReal) by simp [Ideal.ofBits, Ideal.ieee]]
  exact hM

omit hz in
/-- The constant below everything, at a token. -/
theorem bottom_at (b : Fin 6) (t : Fin 256) (h : Fin 24) :
    broadcastInDim S6x256x24 ![] bcast_S_S6x256x24 (constant (F := Ideal) S_ .f32 0xFF800000#32) (ix3 b t h) = (⊥ : EReal) := by
  show Ideal.ofBits .f32 0xFF800000#32 = _
  simp [Ideal.ofBits, Ideal.ieee]

omit hz in
/-- The greater of nothing and a number. -/
theorem max_at (u v : FVec Ideal S6x256x24 .f32) (b : Fin 6) (t : Fin 256) (h : Fin 24) {M : ℝ}
    (hu : u (ix3 b t h) = (⊥ : EReal)) (hv : v (ix3 b t h) = ((M : ℝ) : EReal)) : maximumf u v (ix3 b t h) = ((M : ℝ) : EReal) := by
  show max (u (ix3 b t h)) (v (ix3 b t h)) = _
  rw [hu, hv, max_eq_right bot_le]

/-- The greatest score of a token is a real number. -/
theorem greatest_at (b : Fin 6) (t : Fin 256) (h : Fin 24) :
    ∃ M : ℝ, maximumf (broadcastInDim S6x256x24 ![] bcast_S_S6x256x24 (constant (F := Ideal) S_ .f32 0xFF800000#32))
      (Host.reduce FloatOps.maximumf z (constant S_ .f32 0xFF800000#32) reducesTo_S6x256x24x96_S6x256x24_d3 h_S_) (ix3 b t h) = ((M : ℝ) : EReal) := by
  obtain ⟨M, hM⟩ := fold_max_coe 95 fun j => Z b h j t
  exact ⟨M, max_at _ _ b t h (bottom_at b t h) (reduce_at hz b t h hM)⟩

/-- The exponentials of the scores, less some number of the token. -/
theorem expzA_at (b : Fin 6) (t : Fin 256) (h : Fin 24) :
    ∃ M : ℝ, ∀ j : Fin 96, expzA z (ix4 b t h j) = ((Real.exp (Z b h j t - M) : ℝ) : EReal) := by
  obtain ⟨M, hM⟩ := greatest_at hz b t h
  exact ⟨M, fun j => exp_sub_at z _ _ (hz b t h j) ((slotA_at _ b t h j).trans hM)⟩

omit hz in
/-- The sum over the slots. -/
theorem total_at (b : Fin 6) (t : Fin 256) (h : Fin 24) {Y : ℕ → ℝ} (hy : ∀ j : Fin 96, z (ix4 b t h j) = ((Y j : ℝ) : EReal)) :
    Host.reduceAdd z (constant S_ .f32 0x00000000#32) reducesTo_S6x256x24x96_S6x256x24_d3 h_S_ (ix3 b t h) = ((∑ j ∈ range 96, Y j : ℝ) : EReal) := by
  pointwise
  simp only [hy]
  exact coe_sum 96 Y

/-- The softmax. -/
theorem ppA_at (b : Fin 6) (t : Fin 256) (h : Fin 24) (j : Fin 96) :
    ppA z (ix4 b t h j) = ((Real.exp (Z b h j t) / ∑ i ∈ range 96, Real.exp (Z b h i t) : ℝ) : EReal) := by
  obtain ⟨M, hM⟩ := expzA_at hz b t h
  have hs : 0 < ∑ i ∈ range 96, Real.exp (Z b h i t) := sum_pos (fun i _ => Real.exp_pos _) ⟨0, by simp⟩
  have he : ∑ i ∈ range 96, Real.exp (Z b h i t - M) = (∑ i ∈ range 96, Real.exp (Z b h i t)) * Real.exp (-M) := by
    rw [sum_mul]
    exact sum_congr rfl fun i _ => by rw [sub_eq_add_neg, Real.exp_add]
  have hd : ∑ i ∈ range 96, Real.exp (Z b h i t - M) ≠ 0 := by rw [he]; exact (mul_pos hs (Real.exp_pos _)).ne'
  refine (div_at (expzA z) _ _ (hM j) ((slotA_at _ b t h j).trans (total_at b t h (Y := fun i => Real.exp (Z b h i t - M)) hM)) hd).trans ?_
  rw [he, sub_eq_add_neg, Real.exp_add]
  refine congrArg _ ?_
  have := Real.exp_pos (-M)
  field_simp
end Slots

theorem tokens32 : Ideal.ofBits .f32 0x43200000#32 = ((160 : ℝ) : EReal) := by
  simp [Ideal.ofBits, Ideal.ieee, -EReal.coe_mul]; norm_num

variable {f : FVec Ideal S6x256x24x96 .bf16} {F : ℕ → ℕ → ℕ → ℕ → ℝ}
  (hf : ∀ (b : Fin 6) (t : Fin 256) (h : Fin 24) (j : Fin 96), f (ix4 b t h j) = ((F b h j t : ℝ) : EReal))
  {a : FVec Ideal S6x24x256x256 .f32} {A : ℕ → ℕ → ℕ → ℕ → ℝ}
  (ha : ∀ (b : Fin 6) (h : Fin 24) (t s : Fin 256), a (ix4 b h t s) = ((A b h s t : ℝ) : EReal))
include hf

section Weights
include ha

/-- The scores of the slots. -/
theorem zzA_at (b : Fin 6) (t : Fin 256) (h : Fin 24) (j : Fin 96) : zzA f a (ix4 b t h j) = ((zz (F b h) (A b h) j t : ℝ) : EReal) := by
  have h160 : (0 : ℝ) < Real.sqrt 160 := Real.sqrt_pos.2 (by norm_num)
  unfold zzA
  pointwise
  simp only [cBA_at hf, gA_at hf, maskA_at ha]
  rw [tokens32, Ideal.sqrt_coe, if_neg (by norm_num), Ideal.div_coe h160.ne', Ideal.exp_coe,
    coe_dot 256 (fun s => Real.exp (-cB (F b h) j s) * gw (F b h) j s) fun s => if s ≤ t.val then A b h s t else 0,
    ← EReal.coe_mul, ← EReal.coe_mul, zz, mul_one_div]
  refine congrArg (fun r : ℝ => ((Real.exp (cB (F b h) j t) * r / Real.sqrt 160 : ℝ) : EReal)) (sum_congr rfl fun s _ => mul_comm _ _)

/-- The weights of the tokens. -/
theorem pwA_at (b : Fin 6) (h : Fin 24) (t s : Fin 256) : pwA f a (ix4 b h t s) = ((pw (F b h) (A b h) s t : ℝ) : EReal) := by
  unfold pwA
  refine maskA_at (A := fun b h s t => ∑ j ∈ range 96, pp (F b h) (A b h) j t * Real.exp (cB (F b h) j t) * (Real.exp (-cB (F b h) j s) * gw (F b h) j s))
    (fun b h t s => ?_) b h t s
  pointwise
  simp only [cBA_at hf, gA_at hf, ppA_at (Z := fun b h j t => zz (F b h) (A b h) j t) (zzA_at hf ha), Ideal.exp_coe, ← EReal.coe_mul]
  exact coe_sum 96 fun j => pp (F b h) (A b h) j t * Real.exp (cB (F b h) j t) * (Real.exp (-cB (F b h) j s) * gw (F b h) j s)

/-- The output. -/
theorem oA_at {v : FVec Ideal S6x256x24x160 .bf16} {V : ℕ → ℕ → ℕ → ℕ → EReal}
    (hv : ∀ (b : Fin 6) (t : Fin 256) (h : Fin 24) (d : Fin 160), v (ix4 b t h d) = V b h d t)
    (b : Fin 6) (t : Fin 256) (h : Fin 24) (d : Fin 160) :
    oA v f a (ix4 b t h d) = ∑ s ∈ range 256, V b h d s * ((pw (F b h) (A b h) s t : ℝ) : EReal) := by
  unfold oA
  pointwise
  simp only [hv, pwA_at hf ha]
  exact (Finset.sum_range fun s => V b h d s * ((pw (F b h) (A b h) s t : ℝ) : EReal)).symm
end Weights

/-- The final state of the slots. -/
theorem slotsA_at {x : FVec Ideal S6x256x24x160 .f32} {X : ℕ → ℕ → ℕ → ℕ → EReal}
    (hx : ∀ (b : Fin 6) (t : Fin 256) (h : Fin 24) (d : Fin 160), x (ix4 b t h d) = X b h d t)
    (b : Fin 6) (h : Fin 24) (j : Fin 96) (d : Fin 160) :
    slotsA f x (ix4 b h j d) = ∑ s ∈ range 256, ((wl (F b h) j s : ℝ) : EReal) * X b h d s := by
  unfold slotsA
  pointwise
  simp only [hx, wlA_at hf]
  exact (Finset.sum_range fun s => ((wl (F b h) j s : ℝ) : EReal) * X b h d s).symm

end Cert.Proof.Ref
-- ==== Proof.RefFinal.lean ====
/- The arrays of the reference's results are those of the kernel's. -/
module

public import proofs.«01_k».proof.Proof.RefScores
public import proofs.«01_k».proof.Proof.Final

@[expose] public section

set_option maxRecDepth 16384

noncomputable section

namespace Cert.Proof.Ref

open Idealize.ShloMosaic Finset Cert.ReferenceIdeal Cert.ReferenceIdeal.Gen

theorem all4 {a b c d : ℕ} {P : (⟨4, ![a, b, c, d]⟩ : Shape).Idx → Prop} (h : ∀ i j k l, P (ix4 i j k l)) (y : (⟨4, ![a, b, c, d]⟩ : Shape).Idx) : P y := by
  have e : y = ix4 (y 0) (y 1) (y 2) (y 3) := by funext i; fin_cases i <;> rfl
  rw [e]
  exact h _ _ _ _
theorem all3 {a b c : ℕ} {P : (⟨3, ![a, b, c]⟩ : Shape).Idx → Prop} (h : ∀ i j k, P (ix3 i j k)) (y : (⟨3, ![a, b, c]⟩ : Shape).Idx) : P y := by
  have e : y = ix3 (y 0) (y 1) (y 2) := by funext i; fin_cases i <;> rfl
  rw [e]
  exact h _ _ _

variable {q k v : FVec Ideal S6x256x24x160 .bf16} {f : FVec Ideal S6x256x24x96 .bf16}
  {Q K : ℕ → ℕ → ℕ → ℕ → ℝ} {V : ℕ → ℕ → ℕ → ℕ → EReal} {F : ℕ → ℕ → ℕ → ℕ → ℝ} (A : Args q k v f Q K V F)
include A

/-- The scales. -/
theorem final_20 : (scaleA q : S6x256x24.Idx → EReal) = scaleR Q := funext (all3 fun b t h => scaleA_at A.hq b t h)
theorem final_51 : (scaleA k : S6x256x24.Idx → EReal) = scaleR K := funext (all3 fun b t h => scaleA_at A.hk b t h)

/-- The codes. -/
theorem final_62_0 : (clipA q : S6x256x24x160.Idx → EReal) = codeR Q := funext (all4 fun b t h d => clipA_at A.hq b t h d)
theorem final_62_1 : (clipA k : S6x256x24x160.Idx → EReal) = codeR K := funext (all4 fun b t h d => clipA_at A.hk b t h d)

/-- The output. -/
theorem final_115 : (oA v f (ovA (clipA q) (clipA k) (scaleA q) (scaleA k)) : S6x256x24x160.Idx → EReal) = oR Q K V F :=
  funext (all4 fun b t h d => oA_at (A := fun b h s t => Head.ov (fun d t => qhat (K b h t) d) (fun d t => qhat (Q b h t) d) s t) A.hf
    (fun b h t s => ovA_at (clipA_at A.hq) (clipA_at A.hk) (scaleA_at A.hq) (scaleA_at A.hk) b h t s) A.hv b t h d)

/-- The final state of the values. -/
theorem final_122 : (slotsA f (extf .f32 v bitsLt_bf16_f32) : S6x24x96x160.Idx → EReal) = vsR V F :=
  funext (all4 fun b h j d => slotsA_at A.hf (X := V) A.hv b h j d)

omit A in
theorem product_at (c : FVec Ideal S6x256x24x160 .f32) (s : FVec Ideal S6x256x24 .f32) (b : Fin 6) (t : Fin 256) (h : Fin 24) (d : Fin 160) {x y : ℝ}
    (hc : c (ix4 b t h d) = ((x : ℝ) : EReal)) (hs : s (ix3 b t h) = ((y : ℝ) : EReal)) : mulf c (rowA s) (ix4 b t h d) = ((x * y : ℝ) : EReal) := by
  unfold rowA
  pointwise
  rw [hc, hs, EReal.coe_mul]

/-- The final state of the keys. -/
theorem final_121 : (slotsA f (mulf (clipA k) (rowA (scaleA k))) : S6x24x96x160.Idx → EReal) = ksR K F :=
  funext (all4 fun b h j d => (slotsA_at A.hf (X := fun b h d s => ((qhat (K b h s) d : ℝ) : EReal))
    (fun b t h d => product_at _ _ b t h d (clipA_at A.hk b t h d) (scaleA_at A.hk b t h)) b h j d).trans (by
      refine (Finset.sum_range _).trans ?_
      exact coe_dot 256 (fun s => wl (F b h) j s) fun s => qhat (K b h s) d))

end Cert.Proof.Ref
-- ==== Proof.Pre.lean ====
/- What the precondition says of the arguments: real queries, keys and forget logits, each token's queries and keys in range. -/
module

public import proofs.«01_k».proof.Proof.Final
public import proofs.«01_k».proof.Proof.Gen.Pre_arguments_in_range

@[expose] public section

set_option maxRecDepth 16384

noncomputable section

namespace Cert.Proof.Pre

open Idealize.ShloMosaic Finset Cert.Pre_arguments_in_range Cert.Pre_arguments_in_range.Facts

theorem or_one (x y : BitVec 1) (h : IntOp.ori x y = 1#1) : x = 1#1 ∨ y = 1#1 := by
  revert x y; unfold IntOp.ori; decide
theorem and_one (x y : BitVec 1) (h : IntOp.andi x y = 1#1) : x = 1#1 ∧ y = 1#1 := by
  revert x y; unfold IntOp.andi; decide
theorem bool_one (b : Bool) (h : BitVec.ofBool b = 1#1) : b = true := by
  revert b; decide

theorem low32 : Ideal.ofBits .f32 0x00800000#32 = (((2 : ℝ) ^ (-126 : ℤ) : ℝ) : EReal) := by
  simp [Ideal.ofBits, Ideal.ieee, -EReal.coe_mul]; norm_num
theorem high32 : Ideal.ofBits .f32 0x7E800000#32 = (((2 : ℝ) ^ (126 : ℤ) : ℝ) : EReal) := by
  simp [Ideal.ofBits, Ideal.ieee, -EReal.coe_mul, -EReal.coe_pow]; norm_num [-EReal.coe_pow]
theorem top32 : Ideal.ofBits .f32 0x7F800000#32 = (⊤ : EReal) := by
  simp [Ideal.ofBits, Ideal.ieee]
theorem zero32 : Ideal.ofBits .f32 0x00000000#32 = (0 : EReal) := by
  simp [Ideal.ofBits, Ideal.ieee]
theorem bot32 : Ideal.ofBits .f32 0xFF800000#32 = (⊥ : EReal) := by
  simp [Ideal.ofBits, Ideal.ieee]

/-- A token's number in range, as an extended real. -/
def Good (y : EReal) : Prop := y = 0 ∨ ((((2 : ℝ) ^ (-126 : ℤ) : ℝ) : EReal) ≤ y ∧ y < (((2 : ℝ) ^ (126 : ℤ) : ℝ) : EReal))

/-- The tests on a token's number. -/
theorem good_of (y : EReal) (h : IntOp.ori (Ideal.cmp .oeq y (Ideal.ofBits .f32 0x00000000#32))
    (IntOp.andi (Ideal.cmp .oge y (Ideal.ofBits .f32 0x00800000#32)) (Ideal.cmp .olt y (Ideal.ofBits .f32 0x7E800000#32))) = 1#1) : Good y := by
  rw [low32, high32, zero32] at h
  rcases or_one _ _ h with h | h
  · exact Or.inl (of_decide_eq_true (bool_one _ h))
  · obtain ⟨h1, h2⟩ := and_one _ _ h
    exact Or.inr ⟨of_decide_eq_true (bool_one _ h1), of_decide_eq_true (bool_one _ h2)⟩

/-- The greatest magnitude of a token, as an extended real. -/
def big (x : FVec Ideal S6x256x24x160 .bf16) (b : Fin 6) (t : Fin 256) (h : Fin 24) : EReal :=
  (univ : Finset (Fin 160)).fold max (⊥ : EReal) fun d => max (x (ix4 b t h d)) (-(x (ix4 b t h d)))

theorem big_at (x : FVec Ideal S6x256x24x160 .bf16) (b : Fin 6) (t : Fin 256) (h : Fin 24) :
    Host.reduce FloatOps.maximumf (Host.absf (extf .f32 x bitsLt_bf16_f32)) (constant S_ .f32 0xFF800000#32)
      reducesTo_S6x256x24x160_S6x256x24_d3 h_S_ (ix3 b t h) = big x b t h := by
  pointwise
  rw [show Ideal.ofBits .f32 4286578688#32 = (⊥ : EReal) from bot32]
  rfl

theorem num_at (a : FVec Ideal S6x256x24 .f32) (b : Fin 6) (t : Fin 256) (h : Fin 24) {M : EReal} (ha : a (ix3 b t h) = M) :
    mulf a (broadcastInDim S6x256x24 ![] bcast_S_S6x256x24 (constant (F := Ideal) S_ .f32 0x3B124925#32)) (ix3 b t h) = M * ((c448 : ℝ) : EReal) := by
  show a (ix3 b t h) * Ideal.ofBits .f32 0x3B124925#32 = _
  rw [ha]
  exact congrArg _ c448_32

/-- The tests on the array of the tokens' numbers. -/
def goodA (y : FVec Ideal S6x256x24 .f32) : IVec S6x256x24 1 :=
  ori (cmpf .oeq y (broadcastInDim S6x256x24 ![] bcast_S_S6x256x24 (constant (F := Ideal) S_ .f32 0x00000000#32)))
    (andi (cmpf .oge y (broadcastInDim S6x256x24 ![] bcast_S_S6x256x24 (constant (F := Ideal) S_ .f32 0x00800000#32)))
      (cmpf .olt y (broadcastInDim S6x256x24 ![] bcast_S_S6x256x24 (constant (F := Ideal) S_ .f32 0x7E800000#32))))

theorem goodA_at (y : FVec Ideal S6x256x24 .f32) (i : S6x256x24.Idx) {M : EReal} (hy : y i = M) (h : goodA y i = 1#1) : Good M := by
  rw [← hy]
  exact good_of (y i) h

/-- The test on the logits. -/
def finiteA (f : FVec Ideal S6x256x24x96 .bf16) : IVec S6x256x24x96 1 :=
  cmpf .olt (Host.absf (extf .f32 f bitsLt_bf16_f32)) (broadcastInDim S6x256x24x96 ![] bcast_S_S6x256x24x96 (constant (F := Ideal) S_ .f32 0x7F800000#32))

theorem finiteA_at (f : FVec Ideal S6x256x24x96 .bf16) (i : S6x256x24x96.Idx) (h : finiteA f i = 1#1) : max (f i) (-(f i)) < ⊤ := by
  have h1 : Ideal.cmp .olt (max (f i) (-(f i))) (Ideal.ofBits .f32 0x7F800000#32) = 1#1 := h
  rw [top32] at h1
  exact of_decide_eq_true (bool_one _ h1)

theorem real_of {x : EReal} (h : max x (-x) < ⊤) : x = ((x.toReal : ℝ) : EReal) := by
  refine (EReal.coe_toReal (fun e => ?_) fun e => ?_).symm
  · rw [e] at h; simp at h
  · rw [e] at h; simp at h

/-- The numbers of the tokens. -/
def numA (x : FVec Ideal S6x256x24x160 .bf16) : FVec Ideal S6x256x24 .f32 :=
  mulf (Host.reduce FloatOps.maximumf (Host.absf (extf .f32 x bitsLt_bf16_f32)) (constant S_ .f32 0xFF800000#32)
      reducesTo_S6x256x24x160_S6x256x24_d3 h_S_) (broadcastInDim S6x256x24 ![] bcast_S_S6x256x24 (constant (F := Ideal) S_ .f32 0x3B124925#32))

theorem numA_at (x : FVec Ideal S6x256x24x160 .bf16) (b : Fin 6) (t : Fin 256) (h : Fin 24) : numA x (ix3 b t h) = big x b t h * ((c448 : ℝ) : EReal) :=
  num_at _ b t h (big_at x b t h)

/-- A number per token, at every slot. -/
theorem slots_at (g : IVec S6x256x24 1) (b : Fin 6) (t : Fin 256) (h : Fin 24) (j : Fin 96) :
    broadcastInDim S6x256x24x96 ![0, 1, 2, 3] bcast_S6x256x24x1_S6x256x24x96_0_1_2_3
      (broadcastInDim S6x256x24x1 ![0, 1, 2] bcast_S6x256x24_S6x256x24x1_0_1_2 g) (ix4 b t h j) = g (ix3 b t h) := by
  pointwise

/-- The precondition, by its tests. -/
theorem fn_eq (q k v : FVec Ideal S6x256x24x160 .bf16) (f : FVec Ideal S6x256x24x96 .bf16) :
    fn q k v f = andi (broadcastInDim S6x256x24x96 ![0, 1, 2, 3] bcast_S6x256x24x1_S6x256x24x96_0_1_2_3
      (broadcastInDim S6x256x24x1 ![0, 1, 2] bcast_S6x256x24_S6x256x24x1_0_1_2 (andi (goodA (numA q)) (goodA (numA k))))) (finiteA f) := rfl

theorem tests {q k v : FVec Ideal S6x256x24x160 .bf16} {f : FVec Ideal S6x256x24x96 .bf16} (hp : fn q k v f = fun _ => 1#1)
    (b : Fin 6) (t : Fin 256) (h : Fin 24) (j : Fin 96) :
    Good (big q b t h * ((c448 : ℝ) : EReal)) ∧ Good (big k b t h * ((c448 : ℝ) : EReal)) ∧ max (f (ix4 b t h j)) (-(f (ix4 b t h j))) < ⊤ := by
  have h0 := congrFun ((fn_eq q k v f).symm.trans hp) (ix4 b t h j)
  obtain ⟨h1, h2⟩ := and_one _ _ h0
  obtain ⟨h3, h4⟩ := and_one _ _ ((slots_at _ b t h j).symm.trans h1)
  exact ⟨goodA_at _ _ (numA_at q b t h) h3, goodA_at _ _ (numA_at k b t h) h4, finiteA_at f _ h2⟩

theorem c448_pos : 0 < c448 := by unfold c448; norm_num

theorem row_real {x : FVec Ideal S6x256x24x160 .bf16} {b : Fin 6} {t : Fin 256} {h : Fin 24} (hg : Good (big x b t h * ((c448 : ℝ) : EReal)))
    (d : Fin 160) : x (ix4 b t h d) = (((x (ix4 b t h d)).toReal : ℝ) : EReal) := by
  refine real_of (lt_of_le_of_lt (b := big x b t h) ?_ (lt_top_iff_ne_top.2 fun e => ?_))
  · exact Finset.le_sup (f := fun d : Fin 160 => max (x (ix4 b t h d)) (-(x (ix4 b t h d)))) (mem_univ d)
  · rw [e, EReal.top_mul_coe_of_pos c448_pos] at hg
    rcases hg with hg | hg
    · exact EReal.top_ne_zero hg
    · exact not_top_lt hg.2

theorem inRange_of {x : FVec Ideal S6x256x24x160 .bf16} {b : Fin 6} {t : Fin 256} {h : Fin 24} (hg : Good (big x b t h * ((c448 : ℝ) : EReal)))
    {X : ℕ → ℝ} (hX : ∀ d : Fin 160, x (ix4 b t h d) = ((X d : ℝ) : EReal)) : InRange X := by
  have hb : big x b t h = ((amax X : ℝ) : EReal) := by
    unfold big
    simp only [hX, abs_coe]
    exact fold_amax X
  rw [hb, ← EReal.coe_mul] at hg
  rcases hg with hg | hg
  · exact Or.inl (EReal.coe_eq_zero.1 hg)
  · exact Or.inr ⟨EReal.coe_le_coe_iff.1 hg.1, EReal.coe_lt_coe_iff.1 hg.2⟩

theorem fin_val {n : ℕ} [NeZero n] (i : Fin n) : Fin.ofNat n i.val = i := Fin.ext (Nat.mod_eq_of_lt i.isLt)

/-- The real arrays of arguments that meet the precondition. -/
theorem args {q k v : FVec Ideal S6x256x24x160 .bf16} {f : FVec Ideal S6x256x24x96 .bf16} (hp : fn q k v f = fun _ => 1#1) :
    ∃ Q K V F, Args q k v f Q K V F := by
  have hq : ∀ (b : Fin 6) (t : Fin 256) (h : Fin 24) (d : Fin 160), q (ix4 b t h d) =
      (((fun b h t d : ℕ => (q (ix4 (Fin.ofNat 6 b) (Fin.ofNat 256 t) (Fin.ofNat 24 h) (Fin.ofNat 160 d))).toReal) b h t d : ℝ) : EReal) := by
    intro b t h d
    simp only [fin_val]
    exact row_real (tests hp b t h 0).1 d
  have hk : ∀ (b : Fin 6) (t : Fin 256) (h : Fin 24) (d : Fin 160), k (ix4 b t h d) =
      (((fun b h t d : ℕ => (k (ix4 (Fin.ofNat 6 b) (Fin.ofNat 256 t) (Fin.ofNat 24 h) (Fin.ofNat 160 d))).toReal) b h t d : ℝ) : EReal) := by
    intro b t h d
    simp only [fin_val]
    exact row_real (tests hp b t h 0).2.1 d
  refine ⟨fun b h t d => (q (ix4 (Fin.ofNat 6 b) (Fin.ofNat 256 t) (Fin.ofNat 24 h) (Fin.ofNat 160 d))).toReal,
    fun b h t d => (k (ix4 (Fin.ofNat 6 b) (Fin.ofNat 256 t) (Fin.ofNat 24 h) (Fin.ofNat 160 d))).toReal,
    fun b h d t => v (ix4 (Fin.ofNat 6 b) (Fin.ofNat 256 t) (Fin.ofNat 24 h) (Fin.ofNat 160 d)),
    fun b h j t => (f (ix4 (Fin.ofNat 6 b) (Fin.ofNat 256 t) (Fin.ofNat 24 h) (Fin.ofNat 96 j))).toReal, hq, hk, ?_, ?_, ?_, ?_⟩
  · intro b t h d
    simp only [fin_val]
  · intro b t h j
    simp only [fin_val]
    exact real_of (tests hp b t h j).2.2
  · intro b hb h hh t ht
    exact inRange_of (tests hp ⟨b, hb⟩ ⟨t, ht⟩ ⟨h, hh⟩ 0).1 (hq ⟨b, hb⟩ ⟨t, ht⟩ ⟨h, hh⟩)
  · intro b hb h hh t ht
    exact inRange_of (tests hp ⟨b, hb⟩ ⟨t, ht⟩ ⟨h, hh⟩ 0).2.1 (hk ⟨b, hb⟩ ⟨t, ht⟩ ⟨h, hh⟩)

end Cert.Proof.Pre
-- ==== Proof.lean ====
/- The claims of this certificate, assembled. -/
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.Kernel
public import proofs.«01_k».proof.Proof.Gen.KernelIdeal
public import proofs.«01_k».proof.Proof.Gen.ReferenceIdeal
public import proofs.«01_k».proof.Proof.Gen.Pre_arguments_in_range
public import proofs.«01_k».proof.Proof.Final
public import proofs.«01_k».proof.Proof.RefRun
public import proofs.«01_k».proof.Proof.RefFinal
public import proofs.«01_k».proof.Proof.Pre

@[expose] public section

noncomputable section

namespace Cert.Proof

open Idealize.ShloMosaic Idealize.SL.Sem

/-- Each named constant of the idealized kernel is the constant the kernel has in its place. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "score" .f32 0x3DE995B3#32 (((Real.sqrt 160)⁻¹ * (Real.log 2)⁻¹ : ℝ) : EReal) rfl⟩

section
open Cert.KernelIdeal Cert.KernelIdeal.Gen

/-- The kernel's run, from arguments in range. -/
theorem kernel_run (m : (ℓ : Loc nD τ sig) → Buf (Elt Ideal) ℓ) (g : Dev nD → PrngReg)
    {Q K : Dev nD → ℕ → ℕ → ℕ → ℕ → ℝ} {V : Dev nD → ℕ → ℕ → ℕ → ℕ → EReal} {F : Dev nD → ℕ → ℕ → ℕ → ℕ → ℝ}
    (A : ∀ c : Dev nD, Args (m ((c.tc : Thread nD τ).loc main_arg0)) (m ((c.tc : Thread nD τ).loc main_arg1))
      (m ((c.tc : Thread nD τ).loc main_arg2)) (m ((c.tc : Thread nD τ).loc main_arg3)) (Q c) (K c) (V c) (F c)) :
    θ_run (defs (F := Ideal)) (onTc (τ := τ) (main (F := Ideal))) ⟨m, fun _ => 0, g⟩ (fun r => ∀ c : Dev nD,
      r.2.mem ((c.tc : Thread nD τ).loc main_v5) = oR (Q c) (K c) (V c) (F c)
      ∧ r.2.mem ((c.tc : Thread nD τ).loc main_v8) = ksR (K c) (F c)
      ∧ r.2.mem ((c.tc : Thread nD τ).loc main_v9) = vsR (V c) (F c)
      ∧ r.2.mem ((c.tc : Thread nD τ).loc main_v6) = codeR (Q c)
      ∧ r.2.mem ((c.tc : Thread nD τ).loc main_v10) = scaleR (Q c)
      ∧ r.2.mem ((c.tc : Thread nD τ).loc main_v7) = codeR (K c)
      ∧ r.2.mem ((c.tc : Thread nD τ).loc main_v11) = scaleR (K c)) :=
  (θ_run defs _ _).mono (fun _ h c => ⟨
    ((h c).2 main_v5 (Pipeline.mem_restRefs_of main_v5 (by decide) (by decide))).trans (tail5 m c (A c)),
    ((h c).2 main_v8 (Pipeline.mem_restRefs_of main_v8 (by decide) (by decide))).trans (tail8 m c (A c)),
    ((h c).2 main_v9 (Pipeline.mem_restRefs_of main_v9 (by decide) (by decide))).trans (tail9 m c (A c)),
    ((h c).2 main_v6 (Pipeline.mem_restRefs_of main_v6 (by decide) (by decide))).trans (tail6 m c (A c)),
    ((h c).2 main_v10 (Pipeline.mem_restRefs_of main_v10 (by decide) (by decide))).trans (tail10 m c (A c)),
    ((h c).2 main_v7 (Pipeline.mem_restRefs_of main_v7 (by decide) (by decide))).trans (tail7 m c (A c)),
    ((h c).2 main_v11 (Pipeline.mem_restRefs_of main_v11 (by decide) (by decide))).trans (tail11 m c (A c))⟩) (run_main m g)

end

section
open Cert.ReferenceIdeal Cert.ReferenceIdeal.Gen

/-- The reference's run, from the same. -/
theorem reference_run (m : (ℓ : Loc nD τ sig) → Buf (Elt Ideal) ℓ) (g : Dev nD → PrngReg)
    {Q K : Dev nD → ℕ → ℕ → ℕ → ℕ → ℝ} {V : Dev nD → ℕ → ℕ → ℕ → ℕ → EReal} {F : Dev nD → ℕ → ℕ → ℕ → ℕ → ℝ}
    (A : ∀ c : Dev nD, Args (m ((c.tc : Thread nD τ).loc main_arg0)) (m ((c.tc : Thread nD τ).loc main_arg1))
      (m ((c.tc : Thread nD τ).loc main_arg2)) (m ((c.tc : Thread nD τ).loc main_arg3)) (Q c) (K c) (V c) (F c)) :
    θ_run (defs (F := Ideal)) (onTc (τ := τ) (main (F := Ideal))) ⟨m, fun _ => 0, g⟩ (fun r => ∀ c : Dev nD,
      r.2.mem ((c.tc : Thread nD τ).loc main_v115) = oR (Q c) (K c) (V c) (F c)
      ∧ r.2.mem ((c.tc : Thread nD τ).loc main_v121) = ksR (K c) (F c)
      ∧ r.2.mem ((c.tc : Thread nD τ).loc main_v122) = vsR (V c) (F c)
      ∧ r.2.mem ((c.tc : Thread nD τ).loc main_v62_0) = codeR (Q c)
      ∧ r.2.mem ((c.tc : Thread nD τ).loc main_v20) = scaleR (Q c)
      ∧ r.2.mem ((c.tc : Thread nD τ).loc main_v62_1) = codeR (K c)
      ∧ r.2.mem ((c.tc : Thread nD τ).loc main_v51) = scaleR (K c)) :=
  (θ_run defs _ _).mono (fun _ h c => ⟨
    (((h c).2 main_v115 (Pipeline.mem_restRefs_of main_v115 (by decide) (by decide))).trans (Ref.res_115 m c)).trans (Ref.final_115 (A c)),
    (((h c).2 main_v121 (Pipeline.mem_restRefs_of main_v121 (by decide) (by decide))).trans (Ref.res_121 m c)).trans (Ref.final_121 (A c)),
    (((h c).2 main_v122 (Pipeline.mem_restRefs_of main_v122 (by decide) (by decide))).trans (Ref.res_122 m c)).trans (Ref.final_122 (A c)),
    (((h c).1 2).trans (Ref.cast_2 m c)).trans (Ref.final_62_0 (A c)),
    (((h c).2 main_v20 (Pipeline.mem_restRefs_of main_v20 (by decide) (by decide))).trans (Ref.res_20 m c)).trans (Ref.final_20 (A c)),
    (((h c).1 3).trans (Ref.cast_3 m c)).trans (Ref.final_62_1 (A c)),
    (((h c).2 main_v51 (Pipeline.mem_restRefs_of main_v51 (by decide) (by decide))).trans (Ref.res_51 m c)).trans (Ref.final_51 (A c))⟩) (run_main m g)

end

/-- The kernel and the reference give the same results. -/
theorem algebraic : Cert.algebraic_KernelIdeal_ReferenceIdeal_pre_arguments_in_range := by
  intro m g m' g' hp hm
  choose Q K V F A using fun c => Pre.args (hp c)
  have A' : ∀ c : Dev Cert.KernelIdeal.nD, Args (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) (Q c) (K c) (V c) (F c) := by
    intro c
    rw [(hm c).1, (hm c).2.1, (hm c).2.2.1, (hm c).2.2.2]
    exact A c
  refine ⟨fun c => oR (Q c) (K c) (V c) (F c), fun c => ksR (K c) (F c), fun c => vsR (V c) (F c), fun c => codeR (Q c), fun c => scaleR (Q c),
    fun c => codeR (K c), fun c => scaleR (K c), ?_, ?_⟩
  · exact (θ_run _ _ _).mono (fun _ h c => ⟨(h.1 c).1, (h.1 c).2.1, (h.1 c).2.2.1, (h.1 c).2.2.2.1, (h.1 c).2.2.2.2.1, (h.1 c).2.2.2.2.2.1,
      (h.1 c).2.2.2.2.2.2, h.2 c⟩) (θ_run_and (kernel_run m g A) (Cert.KernelIdeal.Gen.unchanged m g))
  · exact (θ_run _ _ _).mono (fun _ h c => ⟨(h.1 c).1, (h.1 c).2.1, (h.1 c).2.2.1, (h.1 c).2.2.2.1, (h.1 c).2.2.2.2.1, (h.1 c).2.2.2.2.2.1,
      (h.1 c).2.2.2.2.2.2, h.2 c⟩) (θ_run_and (reference_run m' g' A') (Cert.ReferenceIdeal.Gen.unchanged m' g'))

theorem claim : Cert.Claim :=
  ⟨Cert.Kernel.Gen.facts, Cert.KernelIdeal.Gen.facts, Cert.ReferenceIdeal.Gen.facts, Cert.Pre_arguments_in_range.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, preserves, algebraic⟩

end Cert.Proof

end
